-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v88_9) = v1 c
          ∧ r.2.mem ((c.tc : Thread Cert.ReferenceIdeal.nD Cert.ReferenceIdeal.τ).loc Cert.ReferenceIdeal.main_v88_10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256x128 : Shape := ⟨3, ![256, 256, 128]⟩
abbrev S128x8064 : Shape := ⟨2, ![128, 8064]⟩
abbrev S504x8064 : Shape := ⟨2, ![504, 8064]⟩
abbrev S8064 : Shape := ⟨1, ![8064]⟩
abbrev S504x2016 : Shape := ⟨2, ![504, 2016]⟩
abbrev S504 : Shape := ⟨1, ![504]⟩
abbrev S633x8064 : Shape := ⟨2, ![633, 8064]⟩
abbrev S1x8064 : Shape := ⟨2, ![1, 8064]⟩
abbrev S_ : Shape := ⟨0, ![]⟩
abbrev S640x8064 : Shape := ⟨2, ![640, 8064]⟩
abbrev S640x4x2016 : Shape := ⟨3, ![640, 4, 2016]⟩
abbrev S640x4x2048 : Shape := ⟨3, ![640, 4, 2048]⟩
abbrev S640x8192 : Shape := ⟨2, ![640, 8192]⟩
abbrev S128x8192 : Shape := ⟨2, ![128, 8192]⟩
abbrev S504x8192 : Shape := ⟨2, ![504, 8192]⟩
abbrev S1x8192 : Shape := ⟨2, ![1, 8192]⟩
abbrev S2016x504 : Shape := ⟨2, ![2016, 504]⟩
abbrev S2048x504 : Shape := ⟨2, ![2048, 504]⟩
abbrev S1x504 : Shape := ⟨2, ![1, 504]⟩
abbrev S256x256x1x504 : Shape := ⟨4, ![256, 256, 1, 504]⟩
abbrev S256x504 : Shape := ⟨2, ![256, 504]⟩
abbrev S256x2016 : Shape := ⟨2, ![256, 2016]⟩
abbrev S1x256x128 : Shape := ⟨3, ![1, 256, 128]⟩
abbrev S256x1x1x504 : Shape := ⟨4, ![256, 1, 1, 504]⟩
abbrev S256x2048 : Shape := ⟨2, ![256, 2048]⟩
abbrev S256x128 : Shape := ⟨2, ![256, 128]⟩
abbrev S128x2048 : Shape := ⟨2, ![128, 2048]⟩
abbrev S504x2048 : Shape := ⟨2, ![504, 2048]⟩
abbrev S1x2048 : Shape := ⟨2, ![1, 2048]⟩
abbrev S256x1024 : Shape := ⟨2, ![256, 1024]⟩
abbrev S1024x504 : Shape := ⟨2, ![1024, 504]⟩
abbrev S256x256x504 : Shape := ⟨3, ![256, 256, 504]⟩

abbrev nBuf : Space → Nat
  | .hbm => 37
  | .vmem => 20
  | .smem => 0
  | _ => 0

abbrev bufTy : (tb : Table) → Fin (tcTables nBuf tb) → BufTy
  | .hbm, ⟨0, _⟩ => ⟨S256x256x128, .f32⟩
  | .hbm, ⟨1, _⟩ => ⟨S128x8064, .f32⟩
  | .hbm, ⟨2, _⟩ => ⟨S504x8064, .f32⟩
  | .hbm, ⟨3, _⟩ => ⟨S8064, .f32⟩
  | .hbm, ⟨4, _⟩ => ⟨S504x2016, .f32⟩
  | .hbm, ⟨5, _⟩ => ⟨S504, .f32⟩
  | .hbm, ⟨6, _⟩ => ⟨S633x8064, .f32⟩
  | .hbm, ⟨7, _⟩ => ⟨S1x8064, .f32⟩
  | .hbm, ⟨8, _⟩ => ⟨S633x8064, .f32⟩
  | .hbm, ⟨9, _⟩ => ⟨S_, .i32⟩
  | .hbm, ⟨10, _⟩ => ⟨S_, .f32⟩
  | .hbm, ⟨11, _⟩ => ⟨S640x8064, .f32⟩
  | .hbm, ⟨12, _⟩ => ⟨S_, .i32⟩
  | .hbm, ⟨13, _⟩ => ⟨S_, .f32⟩
  | .hbm, ⟨14, _⟩ => ⟨S640x8064, .f32⟩
  | .hbm, ⟨15, _⟩ => ⟨S640x8064, .f32⟩
  | .hbm, ⟨16, _⟩ => ⟨S640x4x2016, .f32⟩
  | .hbm, ⟨17, _⟩ => ⟨S_, .i32⟩
  | .hbm, ⟨18, _⟩ => ⟨S_, .f32⟩
  | .hbm, ⟨19, _⟩ => ⟨S640x4x2048, .f32⟩
  | .hbm, ⟨20, _⟩ => ⟨S640x8192, .f32⟩
  | .hbm, ⟨21, _⟩ => ⟨S128x8192, .f32⟩
  | .hbm, ⟨22, _⟩ => ⟨S128x8192, .bf16⟩
  | .hbm, ⟨23, _⟩ => ⟨S504x8192, .f32⟩
  | .hbm, ⟨24, _⟩ => ⟨S504x8192, .bf16⟩
  | .hbm, ⟨25, _⟩ => ⟨S1x8192, .f32⟩
  | .hbm, ⟨26, _⟩ => ⟨S2016x504, .f32⟩
  | .hbm, ⟨27, _⟩ => ⟨S_, .i32⟩
  | .hbm, ⟨28, _⟩ => ⟨S_, .f32⟩
  | .hbm, ⟨29, _⟩ => ⟨S2048x504, .f32⟩
  | .hbm, ⟨30, _⟩ => ⟨S2048x504, .bf16⟩
  | .hbm, ⟨31, _⟩ => ⟨S1x504, .f32⟩
  | .hbm, ⟨32, _⟩ => ⟨S256x256x128, .f32⟩
  | .hbm, ⟨33, _⟩ => ⟨S256x256x1x504, .f32⟩
  | .hbm, ⟨34, _⟩ => ⟨S256x504, .f32⟩
  | .hbm, ⟨35, _⟩ => ⟨S256x2016, .f32⟩
  | .hbm, ⟨36, _⟩ => ⟨S256x256x504, .f32⟩
  | .local _ .vmem, ⟨0, _⟩ => ⟨S128x8064, .f32⟩
  | .local _ .vmem, ⟨1, _⟩ => ⟨S128x8064, .f32⟩
  | .local _ .vmem, ⟨2, _⟩ => ⟨S128x8064, .f32⟩
  | .local _ .vmem, ⟨3, _⟩ => ⟨S128x8064, .f32⟩
  | .local _ .vmem, ⟨4, _⟩ => ⟨S128x8064, .f32⟩
  | .local _ .vmem, ⟨5, _⟩ => ⟨S128x8064, .f32⟩
  | .local _ .vmem, ⟨6, _⟩ => ⟨S1x256x128, .f32⟩
  | .local _ .vmem, ⟨7, _⟩ => ⟨S1x256x128, .f32⟩
  | .local _ .vmem, ⟨8, _⟩ => ⟨S128x8192, .bf16⟩
  | .local _ .vmem, ⟨9, _⟩ => ⟨S504x8192, .bf16⟩
  | .local _ .vmem, ⟨10, _⟩ => ⟨S1x8192, .f32⟩
  | .local _ .vmem, ⟨11, _⟩ => ⟨S2048x504, .bf16⟩
  | .local _ .vmem, ⟨12, _⟩ => ⟨S1x504, .f32⟩
  | .local _ .vmem, ⟨13, _⟩ => ⟨S256x1x1x504, .f32⟩
  | .local _ .vmem, ⟨14, _⟩ => ⟨S256x1x1x504, .f32⟩
  | .local _ .vmem, ⟨15, _⟩ => ⟨S256x504, .f32⟩
  | .local _ .vmem, ⟨16, _⟩ => ⟨S256x2016, .f32⟩
  | .local _ .vmem, ⟨17, _⟩ => ⟨S256x504, .f32⟩
  | .local _ .vmem, ⟨18, _⟩ => ⟨S256x2048, .f32⟩
  | .local _ .vmem, ⟨19, _⟩ => ⟨S256x504, .f32⟩
  | _, _ => ⟨S256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call3_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg8_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem8_0 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8064 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8064 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 256], ![false, false]⟩

def k1_cond2 (i : grid1.Coords) : BitVec 1 :=
  let arg1 : BitVec 32 := BitVec.ofNat 32 (i 1).val
  let c255_i32 : BitVec 32 := 255#32
  let v402 : BitVec 1 := Scalar.cmpi .eq arg1 c255_i32
  let v403 : BitVec 32 := Scalar.extui v402
  let c0_i32_207 : BitVec 32 := 0#32
  let v404 : BitVec 1 := Scalar.cmpi .ne v403 c0_i32_207
  v404

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S504x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2048x504 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x504 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x1x1x504 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S256x504 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S256x2016 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]
-- ==== ReferenceIdeal.lean ====
abbrev S256x256x128 : Shape := ⟨3, ![256, 256, 128]⟩
abbrev S128x8064 : Shape := ⟨2, ![128, 8064]⟩
abbrev S504x8064 : Shape := ⟨2, ![504, 8064]⟩
abbrev S8064 : Shape := ⟨1, ![8064]⟩
abbrev S504x2016 : Shape := ⟨2, ![504, 2016]⟩
abbrev S504 : Shape := ⟨1, ![504]⟩
abbrev S633x8064 : Shape := ⟨2, ![633, 8064]⟩
abbrev S_ : Shape := ⟨0, ![]⟩
abbrev S1x8064 : Shape := ⟨2, ![1, 8064]⟩
abbrev S1 : Shape := ⟨1, ![1]⟩
abbrev S16 : Shape := ⟨1, ![16]⟩
abbrev S15 : Shape := ⟨1, ![15]⟩
abbrev S31 : Shape := ⟨1, ![31]⟩
abbrev S256x504 : Shape := ⟨2, ![256, 504]⟩
abbrev S256x2016 : Shape := ⟨2, ![256, 2016]⟩
abbrev S256x256x504 : Shape := ⟨3, ![256, 256, 504]⟩
abbrev S1x256x128 : Shape := ⟨3, ![1, 256, 128]⟩
abbrev S256x128 : Shape := ⟨2, ![256, 128]⟩
abbrev S256x8064 : Shape := ⟨2, ![256, 8064]⟩
abbrev S256x2016x1 : Shape := ⟨3, ![256, 2016, 1]⟩
abbrev S1x1x31 : Shape := ⟨3, ![1, 1, 31]⟩
abbrev S256x2016x31 : Shape := ⟨3, ![256, 2016, 31]⟩
abbrev S2016x504 : Shape := ⟨2, ![2016, 504]⟩
abbrev S1x504 : Shape := ⟨2, ![1, 504]⟩
abbrev S1x256x504 : Shape := ⟨3, ![1, 256, 504]⟩

abbrev nBuf : Space → Nat
  | .hbm => 277
  | .vmem => 0
  | .smem => 0
  | _ => 0

abbrev hbmTy0_0 (i : Nat) : BufTy := match i % 128 with
  | 0 => ⟨S256x256x128, .f32⟩
  | 1 => ⟨S128x8064, .f32⟩
  | 2 => ⟨S504x8064, .f32⟩
  | 3 => ⟨S8064, .f32⟩
  | 4 => ⟨S504x2016, .f32⟩
  | 5 => ⟨S504, .f32⟩
  | 6 => ⟨S633x8064, .f32⟩
  | 7 => ⟨S128x8064, .f32⟩
  | 8 => ⟨S_, .f32⟩
  | 9 => ⟨S128x8064, .f32⟩
  | 10 => ⟨S128x8064, .f32⟩
  | 11 => ⟨S_, .f32⟩
  | 12 => ⟨S_, .f32⟩
  | 13 => ⟨S_, .f32⟩
  | 14 => ⟨S128x8064, .f32⟩
  | 15 => ⟨S128x8064, .f32⟩
  | 16 => ⟨S_, .f32⟩
  | 17 => ⟨S128x8064, .f32⟩
  | 18 => ⟨S128x8064, .f32⟩
  | 19 => ⟨S128x8064, .f32⟩
  | 20 => ⟨S504x8064, .f32⟩
  | 21 => ⟨S_, .f32⟩
  | 22 => ⟨S504x8064, .f32⟩
  | 23 => ⟨S504x8064, .f32⟩
  | 24 => ⟨S_, .f32⟩
  | 25 => ⟨S_, .f32⟩
  | 26 => ⟨S_, .f32⟩
  | 27 => ⟨S504x8064, .f32⟩
  | 28 => ⟨S504x8064, .f32⟩
  | 29 => ⟨S_, .f32⟩
  | 30 => ⟨S504x8064, .f32⟩
  | 31 => ⟨S504x8064, .f32⟩
  | 32 => ⟨S504x8064, .f32⟩
  | 33 => ⟨S1x8064, .f32⟩
  | 34 => ⟨S8064, .f32⟩
  | 35 => ⟨S_, .f32⟩
  | 36 => ⟨S8064, .f32⟩
  | 37 => ⟨S8064, .f32⟩
  | 38 => ⟨S_, .f32⟩
  | 39 => ⟨S_, .f32⟩
  | 40 => ⟨S_, .f32⟩
  | 41 => ⟨S8064, .f32⟩
  | 42 => ⟨S8064, .f32⟩
  | 43 => ⟨S_, .f32⟩
  | 44 => ⟨S8064, .f32⟩
  | 45 => ⟨S8064, .f32⟩
  | 46 => ⟨S8064, .f32⟩
  | 47 => ⟨S_, .f32⟩
  | 48 => ⟨S1, .f32⟩
  | 49 => ⟨S_, .f32⟩
  | 50 => ⟨S1, .f32⟩
  | 51 => ⟨S_, .f32⟩
  | 52 => ⟨S1, .f32⟩
  | 53 => ⟨S_, .f32⟩
  | 54 => ⟨S1, .f32⟩
  | 55 => ⟨S_, .f32⟩
  | 56 => ⟨S1, .f32⟩
  | 57 => ⟨S_, .f32⟩
  | 58 => ⟨S1, .f32⟩
  | 59 => ⟨S_, .f32⟩
  | 60 => ⟨S1, .f32⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S1, .f32⟩
  | 89 => ⟨S_, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S_, .f32⟩
  | 100 => ⟨S1, .f32⟩
  | 101 => ⟨S_, .f32⟩
  | 102 => ⟨S1, .f32⟩
  | 103 => ⟨S_, .f32⟩
  | 104 => ⟨S1, .f32⟩
  | 105 => ⟨S_, .f32⟩
  | 106 => ⟨S1, .f32⟩
  | 107 => ⟨S_, .f32⟩
  | 108 => ⟨S1, .f32⟩
  | 109 => ⟨S16, .f32⟩
  | 110 => ⟨S15, .f32⟩
  | 111 => ⟨S31, .f32⟩
  | 112 => ⟨S_, .f32⟩
  | 113 => ⟨S1, .f32⟩
  | 114 => ⟨S_, .f32⟩
  | 115 => ⟨S1, .f32⟩
  | 116 => ⟨S_, .f32⟩
  | 117 => ⟨S1, .f32⟩
  | 118 => ⟨S_, .f32⟩
  | 119 => ⟨S1, .f32⟩
  | 120 => ⟨S_, .f32⟩
  | 121 => ⟨S1, .f32⟩
  | 122 => ⟨S_, .f32⟩
  | 123 => ⟨S1, .f32⟩
  | 124 => ⟨S_, .f32⟩
  | 125 => ⟨S1, .f32⟩
  | 126 => ⟨S_, .f32⟩
  | 127 => ⟨S1, .f32⟩
  | _ => ⟨S256x256x128, .f32⟩

abbrev hbmTy0_1 (i : Nat) : BufTy := match i % 128 with
  | 0 => ⟨S_, .f32⟩
  | 1 => ⟨S1, .f32⟩
  | 2 => ⟨S_, .f32⟩
  | 3 => ⟨S1, .f32⟩
  | 4 => ⟨S_, .f32⟩
  | 5 => ⟨S1, .f32⟩
  | 6 => ⟨S_, .f32⟩
  | 7 => ⟨S1, .f32⟩
  | 8 => ⟨S_, .f32⟩
  | 9 => ⟨S1, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S1, .f32⟩
  | 40 => ⟨S_, .f32⟩
  | 41 => ⟨S1, .f32⟩
  | 42 => ⟨S_, .f32⟩
  | 43 => ⟨S1, .f32⟩
  | 44 => ⟨S_, .f32⟩
  | 45 => ⟨S1, .f32⟩
  | 46 => ⟨S16, .f32⟩
  | 47 => ⟨S15, .f32⟩
  | 48 => ⟨S31, .f32⟩
  | 49 => ⟨S_, .f32⟩
  | 50 => ⟨S256x504, .f32⟩
  | 51 => ⟨S_, .f32⟩
  | 52 => ⟨S256x2016, .f32⟩
  | 53 => ⟨S256x256x128, .f32⟩
  | 54 => ⟨S_, .f32⟩
  | 55 => ⟨S256x256x504, .f32⟩
  | 56 => ⟨S_, .i32⟩
  | 57 => ⟨S256x256x128, .f32⟩
  | 58 => ⟨S128x8064, .f32⟩
  | 59 => ⟨S504x8064, .f32⟩
  | 60 => ⟨S8064, .f32⟩
  | 61 => ⟨S31, .f32⟩
  | 62 => ⟨S31, .f32⟩
  | 63 => ⟨S504x2016, .f32⟩
  | 64 => ⟨S504, .f32⟩
  | 65 => ⟨S_, .i32⟩
  | 66 => ⟨S256x504, .f32⟩
  | 67 => ⟨S256x2016, .f32⟩
  | 68 => ⟨S256x256x504, .f32⟩
  | 69 => ⟨S_, .i32⟩
  | 70 => ⟨S_, .i1⟩
  | 71 => ⟨S_, .i32⟩
  | 72 => ⟨S_, .i32⟩
  | 73 => ⟨S1x256x128, .f32⟩
  | 74 => ⟨S256x128, .f32⟩
  | 75 => ⟨S256x8064, .f32⟩
  | 76 => ⟨S256x8064, .f32⟩
  | 77 => ⟨S256x8064, .f32⟩
  | 78 => ⟨S1x8064, .f32⟩
  | 79 => ⟨S256x8064, .f32⟩
  | 80 => ⟨S256x8064, .f32⟩
  | 81 => ⟨S256x2016, .f32⟩
  | 82 => ⟨S256x2016x1, .f32⟩
  | 83 => ⟨S1x1x31, .f32⟩
  | 84 => ⟨S256x2016x31, .f32⟩
  | 85 => ⟨S256x2016x31, .f32⟩
  | 86 => ⟨S256x2016x31, .i1⟩
  | 87 => ⟨S256x2016x31, .f32⟩
  | 88 => ⟨S_, .f32⟩
  | 89 => ⟨S256x2016, .f32⟩
  | 90 => ⟨S_, .f32⟩
  | 91 => ⟨S256x2016, .f32⟩
  | 92 => ⟨S256x2016, .f32⟩
  | 93 => ⟨S256x2016, .f32⟩
  | 94 => ⟨S256x2016x1, .f32⟩
  | 95 => ⟨S1x1x31, .f32⟩
  | 96 => ⟨S256x2016x31, .f32⟩
  | 97 => ⟨S256x2016x31, .f32⟩
  | 98 => ⟨S256x2016x31, .i1⟩
  | 99 => ⟨S256x2016x31, .f32⟩
  | 100 => ⟨S_, .f32⟩
  | 101 => ⟨S256x2016, .f32⟩
  | 102 => ⟨S_, .f32⟩
  | 103 => ⟨S256x2016, .f32⟩
  | 104 => ⟨S256x2016, .f32⟩
  | 105 => ⟨S256x2016, .f32⟩
  | 106 => ⟨S256x2016x1, .f32⟩
  | 107 => ⟨S1x1x31, .f32⟩
  | 108 => ⟨S256x2016x31, .f32⟩
  | 109 => ⟨S256x2016x31, .f32⟩
  | 110 => ⟨S256x2016x31, .i1⟩
  | 111 => ⟨S256x2016x31, .f32⟩
  | 112 => ⟨S_, .f32⟩
  | 113 => ⟨S256x2016, .f32⟩
  | 114 => ⟨S_, .f32⟩
  | 115 => ⟨S256x2016, .f32⟩
  | 116 => ⟨S256x2016, .f32⟩
  | 117 => ⟨S_, .f32⟩
  | 118 => ⟨S256x2016, .f32⟩
  | 119 => ⟨S256x2016, .f32⟩
  | 120 => ⟨S256x2016, .f32⟩
  | 121 => ⟨S256x2016x1, .f32⟩
  | 122 => ⟨S1x1x31, .f32⟩
  | 123 => ⟨S256x2016x31, .f32⟩
  | 124 => ⟨S256x2016x31, .f32⟩
  | 125 => ⟨S256x2016x31, .i1⟩
  | 126 => ⟨S256x2016x31, .f32⟩
  | 127 => ⟨S_, .f32⟩
  | _ => ⟨S256x256x128, .f32⟩

abbrev hbmTy0_2 (i : Nat) : BufTy := match i % 128 with
  | 0 => ⟨S256x2016, .f32⟩
  | 1 => ⟨S_, .f32⟩
  | 2 => ⟨S256x2016, .f32⟩
  | 3 => ⟨S256x2016, .f32⟩
  | 4 => ⟨S256x2016, .f32⟩
  | 5 => ⟨S256x2016, .f32⟩
  | 6 => ⟨S256x2016, .f32⟩
  | 7 => ⟨S256x2016, .f32⟩
  | 8 => ⟨S256x2016, .f32⟩
  | 9 => ⟨S2016x504, .f32⟩
  | 10 => ⟨S256x504, .f32⟩
  | 11 => ⟨S1x504, .f32⟩
  | 12 => ⟨S256x504, .f32⟩
  | 13 => ⟨S256x504, .f32⟩
  | 14 => ⟨S1x256x504, .f32⟩
  | 15 => ⟨S_, .i32⟩
  | 16 => ⟨S_, .i32⟩
  | 17 => ⟨S256x256x504, .f32⟩
  | 18 => ⟨S_, .i32⟩
  | 19 => ⟨S_, .i32⟩
  | 20 => ⟨S256x256x504, .f32⟩
  | _ => ⟨S256x256x128, .f32⟩

abbrev hbmTy (i : Nat) : BufTy := match i / 128 with
  | 0 => hbmTy0_0 i
  | 1 => hbmTy0_1 i
  | 2 => hbmTy0_2 i
  | _ => ⟨S256x256x128, .f32⟩

abbrev bufTy : (tb : Table) → Fin (tcTables nBuf tb) → BufTy
  | .hbm, ⟨i, _⟩ => hbmTy i
  | _, _ => ⟨S256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_5 : Ref sig .tc := ⟨.hbm, 35, rfl⟩
abbrev main_v12 : Ref sig .tc := ⟨.hbm, 36, rfl⟩
abbrev main_v13 : Ref sig .tc := ⟨.hbm, 37, rfl⟩
abbrev main_cst_6 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v14 : Ref sig .tc := ⟨.hbm, 45, rfl⟩
abbrev main_v15 : Ref sig .tc := ⟨.hbm, 46, rfl⟩
abbrev main_cst_8 : Ref sig .tc := ⟨.hbm, 47, rfl⟩
abbrev main_v16 : Ref sig .tc := ⟨.hbm, 48, rfl⟩
abbrev main_cst_9 : Ref sig .tc := ⟨.hbm, 49, rfl⟩
abbrev main_v17 : Ref sig .tc := ⟨.hbm, 50, rfl⟩
abbrev main_cst_10 : Ref sig .tc := ⟨.hbm, 51, rfl⟩
abbrev main_v18 : Ref sig .tc := ⟨.hbm, 52, rfl⟩
abbrev main_cst_11 : Ref sig .tc := ⟨.hbm, 53, rfl⟩
abbrev main_v19 : Ref sig .tc := ⟨.hbm, 54, rfl⟩
abbrev main_cst_12 : Ref sig .tc := ⟨.hbm, 55, rfl⟩
abbrev main_v20 : Ref sig .tc := ⟨.hbm, 56, rfl⟩
abbrev main_cst_13 : Ref sig .tc := ⟨.hbm, 57, rfl⟩
abbrev main_v21 : Ref sig .tc := ⟨.hbm, 58, rfl⟩
abbrev main_cst_14 : Ref sig .tc := ⟨.hbm, 59, rfl⟩
abbrev main_v22 : Ref sig .tc := ⟨.hbm, 60, rfl⟩
abbrev main_cst_15 : Ref sig .tc := ⟨.hbm, 61, rfl⟩
abbrev main_v23 : Ref sig .tc := ⟨.hbm, 62, rfl⟩
abbrev main_cst_16 : Ref sig .tc := ⟨.hbm, 63, rfl⟩
abbrev main_v24 : Ref sig .tc := ⟨.hbm, 64, rfl⟩
abbrev main_cst_17 : Ref sig .tc := ⟨.hbm, 65, rfl⟩
abbrev main_v25 : Ref sig .tc := ⟨.hbm, 66, rfl⟩
abbrev main_cst_18 : Ref sig .tc := ⟨.hbm, 67, rfl⟩
abbrev main_v26 : Ref sig .tc := ⟨.hbm, 68, rfl⟩
abbrev main_cst_19 : Ref sig .tc := ⟨.hbm, 69, rfl⟩
abbrev main_v27 : Ref sig .tc := ⟨.hbm, 70, rfl⟩
abbrev main_cst_20 : Ref sig .tc := ⟨.hbm, 71, rfl⟩
abbrev main_v28 : Ref sig .tc := ⟨.hbm, 72, rfl⟩
abbrev main_cst_21 : Ref sig .tc := ⟨.hbm, 73, rfl⟩
abbrev main_v29 : Ref sig .tc := ⟨.hbm, 74, rfl⟩
abbrev main_cst_22 : Ref sig .tc := ⟨.hbm, 75, rfl⟩
abbrev main_v30 : Ref sig .tc := ⟨.hbm, 76, rfl⟩
abbrev main_cst_23 : Ref sig .tc := ⟨.hbm, 77, rfl⟩
abbrev main_v31 : Ref sig .tc := ⟨.hbm, 78, rfl⟩
abbrev main_cst_24 : Ref sig .tc := ⟨.hbm, 79, rfl⟩
abbrev main_v32 : Ref sig .tc := ⟨.hbm, 80, rfl⟩
abbrev main_cst_25 : Ref sig .tc := ⟨.hbm, 81, rfl⟩
abbrev main_v33 : Ref sig .tc := ⟨.hbm, 82, rfl⟩
abbrev main_cst_26 : Ref sig .tc := ⟨.hbm, 83, rfl⟩
abbrev main_v34 : Ref sig .tc := ⟨.hbm, 84, rfl⟩
abbrev main_cst_27 : Ref sig .tc := ⟨.hbm, 85, rfl⟩
abbrev main_v35 : Ref sig .tc := ⟨.hbm, 86, rfl⟩
abbrev main_cst_28 : Ref sig .tc := ⟨.hbm, 87, rfl⟩
abbrev main_v36 : Ref sig .tc := ⟨.hbm, 88, rfl⟩
abbrev main_cst_29 : Ref sig .tc := ⟨.hbm, 89, rfl⟩
abbrev main_v37 : Ref sig .tc := ⟨.hbm, 90, rfl⟩
abbrev main_cst_30 : Ref sig .tc := ⟨.hbm, 91, rfl⟩
abbrev main_v38 : Ref sig .tc := ⟨.hbm, 92, rfl⟩
abbrev main_cst_31 : Ref sig .tc := ⟨.hbm, 93, rfl⟩
abbrev main_v39 : Ref sig .tc := ⟨.hbm, 94, rfl⟩
abbrev main_cst_32 : Ref sig .tc := ⟨.hbm, 95, rfl⟩
abbrev main_v40 : Ref sig .tc := ⟨.hbm, 96, rfl⟩
abbrev main_cst_33 : Ref sig .tc := ⟨.hbm, 97, rfl⟩
abbrev main_v41 : Ref sig .tc := ⟨.hbm, 98, rfl⟩
abbrev main_cst_34 : Ref sig .tc := ⟨.hbm, 99, rfl⟩
abbrev main_v42 : Ref sig .tc := ⟨.hbm, 100, rfl⟩
abbrev main_cst_35 : Ref sig .tc := ⟨.hbm, 101, rfl⟩
abbrev main_v43 : Ref sig .tc := ⟨.hbm, 102, rfl⟩
abbrev main_cst_36 : Ref sig .tc := ⟨.hbm, 103, rfl⟩
abbrev main_v44 : Ref sig .tc := ⟨.hbm, 104, rfl⟩
abbrev main_cst_37 : Ref sig .tc := ⟨.hbm, 105, rfl⟩
abbrev main_v45 : Ref sig .tc := ⟨.hbm, 106, rfl⟩
abbrev main_cst_38 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_39 : Ref sig .tc := ⟨.hbm, 112, rfl⟩
abbrev main_v50 : Ref sig .tc := ⟨.hbm, 113, rfl⟩
abbrev main_cst_40 : Ref sig .tc := ⟨.hbm, 114, rfl⟩
abbrev main_v51 : Ref sig .tc := ⟨.hbm, 115, rfl⟩
abbrev main_cst_41 : Ref sig .tc := ⟨.hbm, 116, rfl⟩
abbrev main_v52 : Ref sig .tc := ⟨.hbm, 117, rfl⟩
abbrev main_cst_42 : Ref sig .tc := ⟨.hbm, 118, rfl⟩
abbrev main_v53 : Ref sig .tc := ⟨.hbm, 119, rfl⟩
abbrev main_cst_43 : Ref sig .tc := ⟨.hbm, 120, rfl⟩
abbrev main_v54 : Ref sig .tc := ⟨.hbm, 121, rfl⟩
abbrev main_cst_44 : Ref sig .tc := ⟨.hbm, 122, rfl⟩
abbrev main_v55 : Ref sig .tc := ⟨.hbm, 123, rfl⟩
abbrev main_cst_45 : Ref sig .tc := ⟨.hbm, 124, rfl⟩
abbrev main_v56 : Ref sig .tc := ⟨.hbm, 125, rfl⟩
abbrev main_cst_46 : Ref sig .tc := ⟨.hbm, 126, rfl⟩
abbrev main_v57 : Ref sig .tc := ⟨.hbm, 127, rfl⟩
abbrev main_cst_47 : Ref sig .tc := ⟨.hbm, 128, rfl⟩
abbrev main_v58 : Ref sig .tc := ⟨.hbm, 129, rfl⟩
abbrev main_cst_48 : Ref sig .tc := ⟨.hbm, 130, rfl⟩
abbrev main_v59 : Ref sig .tc := ⟨.hbm, 131, rfl⟩
abbrev main_cst_49 : Ref sig .tc := ⟨.hbm, 132, rfl⟩
abbrev main_v60 : Ref sig .tc := ⟨.hbm, 133, rfl⟩
abbrev main_cst_50 : Ref sig .tc := ⟨.hbm, 134, rfl⟩
abbrev main_v61 : Ref sig .tc := ⟨.hbm, 135, rfl⟩
abbrev main_cst_51 : Ref sig .tc := ⟨.hbm, 136, rfl⟩
abbrev main_v62 : Ref sig .tc := ⟨.hbm, 137, rfl⟩
abbrev main_cst_52 : Ref sig .tc := ⟨.hbm, 138, rfl⟩
abbrev main_v63 : Ref sig .tc := ⟨.hbm, 139, rfl⟩
abbrev main_cst_53 : Ref sig .tc := ⟨.hbm, 140, rfl⟩
abbrev main_v64 : Ref sig .tc := ⟨.hbm, 141, rfl⟩
abbrev main_cst_54 : Ref sig .tc := ⟨.hbm, 142, rfl⟩
abbrev main_v65 : Ref sig .tc := ⟨.hbm, 143, rfl⟩
abbrev main_cst_55 : Ref sig .tc := ⟨.hbm, 144, rfl⟩
abbrev main_v66 : Ref sig .tc := ⟨.hbm, 145, rfl⟩
abbrev main_cst_56 : Ref sig .tc := ⟨.hbm, 146, rfl⟩
abbrev main_v67 : Ref sig .tc := ⟨.hbm, 147, rfl⟩
abbrev main_cst_57 : Ref sig .tc := ⟨.hbm, 148, rfl⟩
abbrev main_v68 : Ref sig .tc := ⟨.hbm, 149, rfl⟩
abbrev main_cst_58 : Ref sig .tc := ⟨.hbm, 150, rfl⟩
abbrev main_v69 : Ref sig .tc := ⟨.hbm, 151, rfl⟩
abbrev main_cst_59 : Ref sig .tc := ⟨.hbm, 152, rfl⟩
abbrev main_v70 : Ref sig .tc := ⟨.hbm, 153, rfl⟩
abbrev main_cst_60 : Ref sig .tc := ⟨.hbm, 154, rfl⟩
abbrev main_v71 : Ref sig .tc := ⟨.hbm, 155, rfl⟩
abbrev main_cst_61 : Ref sig .tc := ⟨.hbm, 156, rfl⟩
abbrev main_v72 : Ref sig .tc := ⟨.hbm, 157, rfl⟩
abbrev main_cst_62 : Ref sig .tc := ⟨.hbm, 158, rfl⟩
abbrev main_v73 : Ref sig .tc := ⟨.hbm, 159, rfl⟩
abbrev main_cst_63 : Ref sig .tc := ⟨.hbm, 160, rfl⟩
abbrev main_v74 : Ref sig .tc := ⟨.hbm, 161, rfl⟩
abbrev main_cst_64 : Ref sig .tc := ⟨.hbm, 162, rfl⟩
abbrev main_v75 : Ref sig .tc := ⟨.hbm, 163, rfl⟩
abbrev main_cst_65 : Ref sig .tc := ⟨.hbm, 164, rfl⟩
abbrev main_v76 : Ref sig .tc := ⟨.hbm, 165, rfl⟩
abbrev main_cst_66 : Ref sig .tc := ⟨.hbm, 166, rfl⟩
abbrev main_v77 : Ref sig .tc := ⟨.hbm, 167, rfl⟩
abbrev main_cst_67 : Ref sig .tc := ⟨.hbm, 168, rfl⟩
abbrev main_v78 : Ref sig .tc := ⟨.hbm, 169, rfl⟩
abbrev main_cst_68 : Ref sig .tc := ⟨.hbm, 170, rfl⟩
abbrev main_v79 : Ref sig .tc := ⟨.hbm, 171, rfl⟩
abbrev main_cst_69 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_cst_70 : Ref sig .tc := ⟨.hbm, 177, rfl⟩
abbrev main_v84 : Ref sig .tc := ⟨.hbm, 178, rfl⟩
abbrev main_cst_71 : Ref sig .tc := ⟨.hbm, 179, rfl⟩
abbrev main_v85 : Ref sig .tc := ⟨.hbm, 180, rfl⟩
abbrev main_v86 : Ref sig .tc := ⟨.hbm, 181, rfl⟩
abbrev main_cst_72 : Ref sig .tc := ⟨.hbm, 182, rfl⟩
abbrev main_v87 : Ref sig .tc := ⟨.hbm, 183, rfl⟩
abbrev main_c : Ref sig .tc := ⟨.hbm, 184, rfl⟩
abbrev main_v88_0 : Ref sig .tc := ⟨.hbm, 185, rfl⟩
abbrev main_v88_1 : Ref sig .tc := ⟨.hbm, 186, rfl⟩
abbrev main_v88_2 : Ref sig .tc := ⟨.hbm, 187, rfl⟩
abbrev main_v88_3 : Ref sig .tc := ⟨.hbm, 188, rfl⟩
abbrev main_v88_4 : Ref sig .tc := ⟨.hbm, 189, rfl⟩
abbrev main_v88_5 : Ref sig .tc := ⟨.hbm, 190, rfl⟩
abbrev main_v88_6 : Ref sig .tc := ⟨.hbm, 191, rfl⟩
abbrev main_v88_7 : Ref sig .tc := ⟨.hbm, 192, rfl⟩
abbrev main_v88_8 : Ref sig .tc := ⟨.hbm, 193, rfl⟩
abbrev main_v88_9 : Ref sig .tc := ⟨.hbm, 194, rfl⟩
abbrev main_v88_10 : Ref sig .tc := ⟨.hbm, 195, rfl⟩
abbrev main_v88_11 : Ref sig .tc := ⟨.hbm, 196, rfl⟩
abbrev main_while0c_c_84 : Ref sig .tc := ⟨.hbm, 197, rfl⟩
abbrev main_while0c_v90 : Ref sig .tc := ⟨.hbm, 198, rfl⟩
abbrev main_while0b_call3_c : Ref sig .tc := ⟨.hbm, 199, rfl⟩
abbrev main_while0b_call3_c_0 : Ref sig .tc := ⟨.hbm, 200, rfl⟩
abbrev main_while0b_call3_v0 : Ref sig .tc := ⟨.hbm, 201, rfl⟩
abbrev main_while0b_v90 : Ref sig .tc := ⟨.hbm, 202, rfl⟩
abbrev main_while0b_v91 : Ref sig .tc := ⟨.hbm, 203, rfl⟩
abbrev main_while0b_v92 : Ref sig .tc := ⟨.hbm, 204, rfl⟩
abbrev main_while0b_v93 : Ref sig .tc := ⟨.hbm, 205, rfl⟩
abbrev main_while0b_v94 : Ref sig .tc := ⟨.hbm, 206, rfl⟩
abbrev main_while0b_v95 : Ref sig .tc := ⟨.hbm, 207, rfl⟩
abbrev main_while0b_v96 : Ref sig .tc := ⟨.hbm, 208, rfl⟩
abbrev main_while0b_v97 : Ref sig .tc := ⟨.hbm, 209, rfl⟩
abbrev main_while0b_v98 : Ref sig .tc := ⟨.hbm, 210, rfl⟩
abbrev main_while0b_v99 : Ref sig .tc := ⟨.hbm, 211, rfl⟩
abbrev main_while0b_v100 : Ref sig .tc := ⟨.hbm, 212, rfl⟩
abbrev main_while0b_v101 : Ref sig .tc := ⟨.hbm, 213, rfl⟩
abbrev main_while0b_v102 : Ref sig .tc := ⟨.hbm, 214, rfl⟩
abbrev main_while0b_v103 : Ref sig .tc := ⟨.hbm, 215, rfl⟩
abbrev main_while0b_cst_84 : Ref sig .tc := ⟨.hbm, 216, rfl⟩
abbrev main_while0b_v104 : Ref sig .tc := ⟨.hbm, 217, rfl⟩
abbrev main_while0b_cst_85 : Ref sig .tc := ⟨.hbm, 218, rfl⟩
abbrev main_while0b_v105 : Ref sig .tc := ⟨.hbm, 219, rfl⟩
abbrev main_while0b_v106 : Ref sig .tc := ⟨.hbm, 220, rfl⟩
abbrev main_while0b_v107 : Ref sig .tc := ⟨.hbm, 221, rfl⟩
abbrev main_while0b_v108 : Ref sig .tc := ⟨.hbm, 222, rfl⟩
abbrev main_while0b_v109 : Ref sig .tc := ⟨.hbm, 223, rfl⟩
abbrev main_while0b_v110 : Ref sig .tc := ⟨.hbm, 224, rfl⟩
abbrev main_while0b_v111 : Ref sig .tc := ⟨.hbm, 225, rfl⟩
abbrev main_while0b_v112 : Ref sig .tc := ⟨.hbm, 226, rfl⟩
abbrev main_while0b_v113 : Ref sig .tc := ⟨.hbm, 227, rfl⟩
abbrev main_while0b_cst_86 : Ref sig .tc := ⟨.hbm, 228, rfl⟩
abbrev main_while0b_v114 : Ref sig .tc := ⟨.hbm, 229, rfl⟩
abbrev main_while0b_cst_87 : Ref sig .tc := ⟨.hbm, 230, rfl⟩
abbrev main_while0b_v115 : Ref sig .tc := ⟨.hbm, 231, rfl⟩
abbrev main_while0b_v116 : Ref sig .tc := ⟨.hbm, 232, rfl⟩
abbrev main_while0b_v117 : Ref sig .tc := ⟨.hbm, 233, rfl⟩
abbrev main_while0b_v118 : Ref sig .tc := ⟨.hbm, 234, rfl⟩
abbrev main_while0b_v119 : Ref sig .tc := ⟨.hbm, 235, rfl⟩
abbrev main_while0b_v120 : Ref sig .tc := ⟨.hbm, 236, rfl⟩
abbrev main_while0b_v121 : Ref sig .tc := ⟨.hbm, 237, rfl⟩
abbrev main_while0b_v122 : Ref sig .tc := ⟨.hbm, 238, rfl⟩
abbrev main_while0b_v123 : Ref sig .tc := ⟨.hbm, 239, rfl⟩
abbrev main_while0b_cst_88 : Ref sig .tc := ⟨.hbm, 240, rfl⟩
abbrev main_while0b_v124 : Ref sig .tc := ⟨.hbm, 241, rfl⟩
abbrev main_while0b_cst_89 : Ref sig .tc := ⟨.hbm, 242, rfl⟩
abbrev main_while0b_v125 : Ref sig .tc := ⟨.hbm, 243, rfl⟩
abbrev main_while0b_v126 : Ref sig .tc := ⟨.hbm, 244, rfl⟩
abbrev main_while0b_cst_90 : Ref sig .tc := ⟨.hbm, 245, rfl⟩
abbrev main_while0b_v127 : Ref sig .tc := ⟨.hbm, 246, rfl⟩
abbrev main_while0b_v128 : Ref sig .tc := ⟨.hbm, 247, rfl⟩
abbrev main_while0b_v129 : Ref sig .tc := ⟨.hbm, 248, rfl⟩
abbrev main_while0b_v130 : Ref sig .tc := ⟨.hbm, 249, rfl⟩
abbrev main_while0b_v131 : Ref sig .tc := ⟨.hbm, 250, rfl⟩
abbrev main_while0b_v132 : Ref sig .tc := ⟨.hbm, 251, rfl⟩
abbrev main_while0b_v133 : Ref sig .tc := ⟨.hbm, 252, rfl⟩
abbrev main_while0b_v134 : Ref sig .tc := ⟨.hbm, 253, rfl⟩
abbrev main_while0b_v135 : Ref sig .tc := ⟨.hbm, 254, rfl⟩
abbrev main_while0b_cst_91 : Ref sig .tc := ⟨.hbm, 255, rfl⟩
abbrev main_while0b_v136 : Ref sig .tc := ⟨.hbm, 256, rfl⟩
abbrev main_while0b_cst_92 : Ref sig .tc := ⟨.hbm, 257, rfl⟩
abbrev main_while0b_v137 : Ref sig .tc := ⟨.hbm, 258, rfl⟩
abbrev main_while0b_v138 : Ref sig .tc := ⟨.hbm, 259, rfl⟩
abbrev main_while0b_v139 : Ref sig .tc := ⟨.hbm, 260, rfl⟩
abbrev main_while0b_v140 : Ref sig .tc := ⟨.hbm, 261, rfl⟩
abbrev main_while0b_v141 : Ref sig .tc := ⟨.hbm, 262, rfl⟩
abbrev main_while0b_v142 : Ref sig .tc := ⟨.hbm, 263, rfl⟩
abbrev main_while0b_v143 : Ref sig .tc := ⟨.hbm, 264, rfl⟩
abbrev main_while0b_v144 : Ref sig .tc := ⟨.hbm, 265, rfl⟩
abbrev main_while0b_v145 : Ref sig .tc := ⟨.hbm, 266, rfl⟩
abbrev main_while0b_v146 : Ref sig .tc := ⟨.hbm, 267, rfl⟩
abbrev main_while0b_v147 : Ref sig .tc := ⟨.hbm, 268, rfl⟩
abbrev main_while0b_v148 : Ref sig .tc := ⟨.hbm, 269, rfl⟩
abbrev main_while0b_call4_v0 : Ref sig .tc := ⟨.hbm, 270, rfl⟩
abbrev main_while0b_call4_c : Ref sig .tc := ⟨.hbm, 271, rfl⟩
abbrev main_while0b_call4_c_0 : Ref sig .tc := ⟨.hbm, 272, rfl⟩
abbrev main_while0b_v149 : Ref sig .tc := ⟨.hbm, 273, rfl⟩
abbrev main_while0b_c_93 : Ref sig .tc := ⟨.hbm, 274, rfl⟩
abbrev main_while0b_v150 : Ref sig .tc := ⟨.hbm, 275, rfl⟩
abbrev main_v89 : Ref sig .tc := ⟨.hbm, 276, rfl⟩

abbrev nD : Nat := 1
abbrev τ : Topo := Topo.v7x

variable {F : FTy → Type} [FloatOps F]

abbrev main_while0_count : Scf.Loop 32 := ⟨0#32, 256#32, 1#32⟩
-- ==== Proof.Prep.lean ====
/- The weight-preparation launch: what its body stores at a point, its proof data, and the proof that the body keeps
   them. -/
module

public import Idealize.ShloMosaic.Lib.Pipeline.ValueKit.Basic
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Tactic
public import Idealize.ShloMosaic.Lib.Ring
public import Idealize.ShloMosaic.Lib.WordCmp

@[expose] public section

set_option maxRecDepth 16384

noncomputable section

namespace Cert.KernelIdeal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole-shape store, alone, is what the buffer then reads. -/
theorem read_writes_all {S : Shape} {e : EltTy} {κ : Kind} {sp : Space} (v : View sig κ sp S e)
    (f : v.ty.Contents (Elt F)) {off : Fin S.rank → Nat} (inb : ∀ a, off a + S.size a ≤ S.size a) (w : S.Idx → Elt F e)
    (h : ∀ a, off a = 0) :
    v.read (Elt F) (v.writes (Elt F) f [(⟨Rect.unit off S.size inb, w⟩ : View.Piece (Elt F) S e)]) = w := by
  rw [View.read_writes_eq_canon _ _ _ (fun y => ⟨_, List.mem_cons_self, View.mem_set_unit_zero (funext h) inb y⟩)]
  exact View.canon_cons_unit_zero (funext h) inb w []

/-- A whole-shape load of a buffer held whole reads its contents. -/
theorem readAt_all {a : Memref sig .tc .vmem S128x8064 .f32} (ha : a.IsWhole) (x : Vec F S128x8064 .f32) :
    View.readAt (Elt F) a.view (Rect.unit (s := S128x8064) ![0, 0] S128x8064.size inb_S128x8064_S128x8064_0_0).toLoadRect (ha.unread x) = x := by
  show View.ld (a.view.read (Elt F) (ha.unread x)) _ = _
  rw [ha.read_unread]
  exact View.ld_unit_lit _ x (by decide)

/-- ONE POINT of the weight preparation: the noise block over 75 plus the clipped weight block, stored whole. -/
theorem run (c : Dev nD) (i : grid0.Coords) (arg1 : Memref sig .tc .vmem S128x8064 .f32) (harg1 : arg1.IsWhole)
    (arg2 : Memref sig .tc .vmem S128x8064 .f32) (harg2 : arg2.IsWhole) (arg3 : Memref sig .tc .vmem S128x8064 .f32) (harg3 : arg3.IsWhole)
    (x0 x1 : Vec F S128x8064 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x1 x0)) -∗ K ⟨⟩))
      ⊢ wp frame (wpE (defs₀ (F := F)) Variants.none c none) E (cc0_weight_prep i arg1 harg1 arg2 harg2 arg3 harg3) K := by
  simp only [cc0_weight_prep_eq_skeleton]; unfold cc0_weight_prep_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  rw [read_writes_all _ _ _ _ (by decide)]
  sl_unfold_words
  rw [readAt_all harg1, readAt_all harg2]

variable (V : Valuation τ sig (Elt F))

/-- Window `w`'s block at point `t`, read off its array as the launch finds it. -/
def iblk (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The launch's proof data on core `c`: the arrays as found, each input's buffer left at its block, the output's at the
    prepared weights of the two blocks; nothing carried from point to point. -/
def dat (c : Dev nD) : Dat τ (Elt F) Unit ℕ (UR sig nD τ) ℕ cfg0 c where
  A w := V (Proc.devRef .tc (Pipeline.arrRef spec0 w))
  after w t := match w with
    | ⟨0, _⟩ => iblk V 0 t
    | ⟨1, _⟩ => iblk V 1 t
    | ⟨2, _⟩ => k0_pay1 (F := F) (iblk V 1 t) (iblk V 0 t)
  Φ _ := Pipeline.ΦA spec0 c
  q _ := fullShare
  owed _ := 0

/-- The arrays the launch starts from. -/
theorem A_eq (c : Dev nD) (w : Fin cfg0.W) : (dat V c).A w = V (Proc.devRef .tc (Pipeline.arrRef spec0 w)) := by dsimp only [dat]
/-- An input block is left as it was. -/
theorem after_0 (c : Dev nD) (t : Fin cfg0.N) : (dat V c).after 0 t = iblk V 0 t := by dsimp only [dat]
/-- The other input block too. -/
theorem after_1 (c : Dev nD) (t : Fin cfg0.N) : (dat V c).after 1 t = iblk V 1 t := by dsimp only [dat]
/-- The output block holds the prepared weights. -/
theorem after_2 (c : Dev nD) (t : Fin cfg0.N) : (dat V c).after 2 t = k0_pay1 (F := F) (iblk V 1 t) (iblk V 0 t) := by dsimp only [dat]

/-- An input's current buffer holds its block. -/
theorem before_0 (c : Dev nD) (t : Fin cfg0.N) (d) : (dat V c).before 0 t d = iblk V 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The buffers the body is called with at point `t`. -/
abbrev ms0 (t : Fin cfg0.N) : Memref sig .tc .vmem S128x8064 .f32 := win0_0.stage (cfg0.slots t 0)
abbrev ms1 (t : Fin cfg0.N) : Memref sig .tc .vmem S128x8064 .f32 := win0_1.stage (cfg0.slots t 1)
abbrev ms2 (t : Fin cfg0.N) : Memref sig .tc .vmem S128x8064 .f32 := win0_2.stage (cfg0.slots t 2)

/-- No window is ever idle. -/
theorem liveAt (w : Fin cfg0.W) (t : Fin cfg0.N) : cfg0.idle w (cfg0.grid.coords t) = false := by
  rfl

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ ∗ (dat V c).leavesExact 0 t ∗ (dat V c).leavesExact 1 t ∗ (dat V c).leavesExact 2 t)

/-- The body at any point, from what it is called with to what it returns. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = (dat V c).Φ t.castSucc from rfl]
  rw [show (dat V c).leavesExact 0 t = owns (c : Thread nD τ) (ms0 t) fullShare ((dat V c).after 0 t) from by
    unfold Dat.leavesExact; rw [liveAt 0 t], after_0]
  rw [show (dat V c).leavesExact 1 t = owns (c : Thread nD τ) (ms1 t) fullShare ((dat V c).after 1 t) from by
    unfold Dat.leavesExact; rw [liveAt 1 t], after_1]
  rw [show (dat V c).leavesExact 2 t = owns (c : Thread nD τ) (ms2 t) fullShare ((dat V c).after 2 t) from by
    unfold Dat.leavesExact; rw [liveAt 2 t], after_2]
  iintro ⟨HΦ, Ho, ⟨%d0, H0⟩, ⟨%d1, H1⟩, ⟨%d2, H2⟩⟩
  iapply (run c (grid0.coords t) _ _ _ _ _ _ (iblk V 0 t) (iblk V 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The launch's body obligation. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Prep

end
-- ==== Proof.CellValue.lean ====
/- What one grid point of the recurrent kernel computes, as functions of what it reads: the input row, the three
   prepared weight arrays, the projection, and the hidden and cell state the point before left. -/
module

public import proofs.«01_k».proof.Proof.Gen.KernelIdeal.Skeleton
public import Idealize.ShloMosaic.Lib.Pipeline.ValueKit.Basic

@[expose] public section

noncomputable section

namespace Cert.KernelIdeal.Cell

open Idealize.ShloMosaic Cert.KernelIdeal Cert.KernelIdeal.Gen

variable {F : FTy → Type} [FloatOps F]

/-- The 2048 columns at `off` of the input weights. -/
abbrev colsX (x1 : Vec F S128x8192 .bf16) (off : Fin 2 → Nat) (inb : ∀ a, off a + S128x2048.size a ≤ S128x8192.size a) :
    Vec F S128x2048 .bf16 := View.ld x1 (Rect.unit (s := S128x8192) off S128x2048.size inb)

/-- The 2048 columns at `off` of the recurrent weights. -/
abbrev colsH (x2 : Vec F S504x8192 .bf16) (off : Fin 2 → Nat) (inb : ∀ a, off a + S504x2048.size a ≤ S504x8192.size a) :
    Vec F S504x2048 .bf16 := View.ld x2 (Rect.unit (s := S504x8192) off S504x2048.size inb)

/-- The 2048 columns at `off` of the bias row. -/
abbrev colsB (x3 : Vec F S1x8192 .f32) (off : Fin 2 → Nat) (inb : ∀ a, off a + S1x2048.size a ≤ S1x8192.size a) :
    Vec F S1x2048 .f32 := View.ld x3 (Rect.unit (s := S1x8192) off S1x2048.size inb)

/-- The input gate before it is quantised: input row times weights plus hidden state times weights plus bias, on the
    first 2048 columns. -/
def preI (x0 : Vec F S1x256x128 .f32) (x1 : Vec F S128x8192 .bf16) (x2 : Vec F S504x8192 .bf16) (x3 : Vec F S1x8192 .f32)
    (h : Vec F S256x504 .f32) : FVec F S256x2048 .f32 :=
  k1_pay9 x0 h (colsX x1 ![0, 0] inb_S128x8192_S128x2048_0_0) (colsH x2 ![0, 0] inb_S504x8192_S504x2048_0_0)
    (colsB x3 ![0, 0] inb_S1x8192_S1x2048_0_0)

/-- The input gate: the pre-activation sent through the sixteen-level ladder. -/
def gateI (x0 : Vec F S1x256x128 .f32) (x1 : Vec F S128x8192 .bf16) (x2 : Vec F S504x8192 .bf16) (x3 : Vec F S1x8192 .f32)
    (h : Vec F S256x504 .f32) : FVec F S256x2048 .f32 :=
  let w := colsX x1 ![0, 0] inb_S128x8192_S128x2048_0_0
  let u := colsH x2 ![0, 0] inb_S504x8192_S504x2048_0_0
  let b := colsB x3 ![0, 0] inb_S1x8192_S1x2048_0_0
  let p := preI x0 x1 x2 x3 h
  let q10 := k1_pay10 x0 h w u b
  let q11 := k1_pay11 x0 h w u b
  let q12 := k1_pay12 x0 h w u b
  let c1 : F .f32 := Scalar.ofBits .f32 0x4000F20F#32
  let c2 : F .f32 := Scalar.ofBits .f32 0x3F96E524#32
  k1_pay18 p q10 q11 q12 (k1_pay13 p q10 q11 q12 c1 c2) (k1_pay14 p q10 q11 q12 c1 c2) (k1_pay15 p q10 q11 q12 c1 c2)
    (k1_pay16 (F := F)) (k1_pay17 (F := F))

/-- The forget gate before it is quantised, on the second 2048 columns. -/
def preF (x0 : Vec F S1x256x128 .f32) (x1 : Vec F S128x8192 .bf16) (x2 : Vec F S504x8192 .bf16) (x3 : Vec F S1x8192 .f32)
    (h : Vec F S256x504 .f32) : FVec F S256x2048 .f32 :=
  k1_pay19 (k1_pay7 x0) (k1_pay8 h) (colsX x1 ![0, 2048] inb_S128x8192_S128x2048_0_2048)
    (colsH x2 ![0, 2048] inb_S504x8192_S504x2048_0_2048) (colsB x3 ![0, 2048] inb_S1x8192_S1x2048_0_2048)

/-- The forget gate. -/
def gateF (x0 : Vec F S1x256x128 .f32) (x1 : Vec F S128x8192 .bf16) (x2 : Vec F S504x8192 .bf16) (x3 : Vec F S1x8192 .f32)
    (h : Vec F S256x504 .f32) : FVec F S256x2048 .f32 :=
  let w := colsX x1 ![0, 2048] inb_S128x8192_S128x2048_0_2048
  let u := colsH x2 ![0, 2048] inb_S504x8192_S504x2048_0_2048
  let b := colsB x3 ![0, 2048] inb_S1x8192_S1x2048_0_2048
  let p := preF x0 x1 x2 x3 h
  let q20 := k1_pay20 (k1_pay7 x0) (k1_pay8 h) w u b
  let q21 := k1_pay21 (k1_pay7 x0) (k1_pay8 h) w u b
  let c : F .f32 := Scalar.ofBits .f32 0x3FC539D4#32
  k1_pay25 p q20 q21 (k1_pay22 p q20 q21 c) (k1_pay23 p q20 q21 c) (k1_pay24 p q20 q21 c)
    (Scalar.ofBits .f32 0xBE72A92A#32) (Scalar.ofBits .f32 0xBEF5BB82#32)

/-- The two products of the candidate's pre-activation, on the third 2048 columns. -/
def dotG (x0 : Vec F S1x256x128 .f32) (x1 : Vec F S128x8192 .bf16) (x2 : Vec F S504x8192 .bf16)
    (h : Vec F S256x504 .f32) : FVec F S256x2048 .f32 :=
  k1_pay26 (k1_pay7 x0) (k1_pay8 h) (colsX x1 ![0, 4096] inb_S128x8192_S128x2048_0_4096)
    (colsH x2 ![0, 4096] inb_S504x8192_S504x2048_0_4096)

/-- The candidate before it is quantised. -/
def preG (x0 : Vec F S1x256x128 .f32) (x1 : Vec F S128x8192 .bf16) (x2 : Vec F S504x8192 .bf16) (x3 : Vec F S1x8192 .f32)
    (h : Vec F S256x504 .f32) : FVec F S256x2048 .f32 :=
  k1_pay27 (dotG x0 x1 x2 h) (colsB x3 ![0, 4096] inb_S1x8192_S1x2048_0_4096)

/-- The candidate: the pre-activation sent through the other ladder. -/
def gateG (x0 : Vec F S1x256x128 .f32) (x1 : Vec F S128x8192 .bf16) (x2 : Vec F S504x8192 .bf16) (x3 : Vec F S1x8192 .f32)
    (h : Vec F S256x504 .f32) : FVec F S256x2048 .f32 :=
  let b := colsB x3 ![0, 4096] inb_S1x8192_S1x2048_0_4096
  let d := dotG x0 x1 x2 h
  k1_pay33 (preG x0 x1 x2 x3 h) (k1_pay28 d b) (k1_pay29 d b) (k1_pay30 d b) (k1_pay31 d b) (k1_pay32 d b)
    (Scalar.ofBits .f32 0x3EBC6517#32)

/-- The output gate before it is quantised, on the last 2048 columns. -/
def preO (x0 : Vec F S1x256x128 .f32) (x1 : Vec F S128x8192 .bf16) (x2 : Vec F S504x8192 .bf16) (x3 : Vec F S1x8192 .f32)
    (h : Vec F S256x504 .f32) : FVec F S256x2048 .f32 :=
  k1_pay34 (k1_pay7 x0) (k1_pay8 h) (colsX x1 ![0, 6144] inb_S128x8192_S128x2048_0_6144)
    (colsH x2 ![0, 6144] inb_S504x8192_S504x2048_0_6144) (colsB x3 ![0, 6144] inb_S1x8192_S1x2048_0_6144)

/-- The level-four bit of the output gate's ladder. -/
def bitO4 (x0 : Vec F S1x256x128 .f32) (x1 : Vec F S128x8192 .bf16) (x2 : Vec F S504x8192 .bf16) (x3 : Vec F S1x8192 .f32)
    (h : Vec F S256x504 .f32) : IVec S256x2048 1 :=
  k1_pay37 (k1_pay7 x0) (k1_pay8 h) (colsX x1 ![0, 6144] inb_S128x8192_S128x2048_0_6144)
    (colsH x2 ![0, 6144] inb_S504x8192_S504x2048_0_6144) (colsB x3 ![0, 6144] inb_S1x8192_S1x2048_0_6144)

/-- The level-sixteen bit. -/
def bitO16 (x0 : Vec F S1x256x128 .f32) (x1 : Vec F S128x8192 .bf16) (x2 : Vec F S504x8192 .bf16) (x3 : Vec F S1x8192 .f32)
    (h : Vec F S256x504 .f32) : IVec S256x2048 1 :=
  k1_pay35 (k1_pay7 x0) (k1_pay8 h) (colsX x1 ![0, 6144] inb_S128x8192_S128x2048_0_6144)
    (colsH x2 ![0, 6144] inb_S504x8192_S504x2048_0_6144) (colsB x3 ![0, 6144] inb_S1x8192_S1x2048_0_6144)

/-- The level-eight bit. -/
def bitO8 (x0 : Vec F S1x256x128 .f32) (x1 : Vec F S128x8192 .bf16) (x2 : Vec F S504x8192 .bf16) (x3 : Vec F S1x8192 .f32)
    (h : Vec F S256x504 .f32) : IVec S256x2048 1 :=
  k1_pay36 (k1_pay7 x0) (k1_pay8 h) (colsX x1 ![0, 6144] inb_S128x8192_S128x2048_0_6144)
    (colsH x2 ![0, 6144] inb_S504x8192_S504x2048_0_6144) (colsB x3 ![0, 6144] inb_S1x8192_S1x2048_0_6144)

/-- The threshold chosen for the level-two comparison. -/
def thrO2 (x0 : Vec F S1x256x128 .f32) (x1 : Vec F S128x8192 .bf16) (x2 : Vec F S504x8192 .bf16) (x3 : Vec F S1x8192 .f32)
    (h : Vec F S256x504 .f32) : FVec F S256x2048 .f32 :=
  k1_pay38 (k1_pay7 x0) (k1_pay8 h) (colsX x1 ![0, 6144] inb_S128x8192_S128x2048_0_6144)
    (colsH x2 ![0, 6144] inb_S504x8192_S504x2048_0_6144) (colsB x3 ![0, 6144] inb_S1x8192_S1x2048_0_6144)

/-- The level-two bit. -/
def bitO2 (x0 : Vec F S1x256x128 .f32) (x1 : Vec F S128x8192 .bf16) (x2 : Vec F S504x8192 .bf16) (x3 : Vec F S1x8192 .f32)
    (h : Vec F S256x504 .f32) : IVec S256x2048 1 := k1_pay39 (preO x0 x1 x2 x3 h) (thrO2 x0 x1 x2 x3 h)

/-- The level-one bit. -/
def bitO1 (x0 : Vec F S1x256x128 .f32) (x1 : Vec F S128x8192 .bf16) (x2 : Vec F S504x8192 .bf16) (x3 : Vec F S1x8192 .f32)
    (h : Vec F S256x504 .f32) : IVec S256x2048 1 :=
  k1_pay40 (preO x0 x1 x2 x3 h) (bitO16 x0 x1 x2 x3 h) (bitO8 x0 x1 x2 x3 h) (bitO4 x0 x1 x2 x3 h) (thrO2 x0 x1 x2 x3 h)

/-- Sixteen and eight weighted by their bits. -/
def highO (x0 : Vec F S1x256x128 .f32) (x1 : Vec F S128x8192 .bf16) (x2 : Vec F S504x8192 .bf16) (x3 : Vec F S1x8192 .f32)
    (h : Vec F S256x504 .f32) : FVec F S256x2048 .f32 := k1_pay41 (F := F) (bitO16 x0 x1 x2 x3 h) (bitO8 x0 x1 x2 x3 h)

/-- The new cell state: forget gate times the old state plus input gate times the candidate. -/
def cNew (x0 : Vec F S1x256x128 .f32) (x1 : Vec F S128x8192 .bf16) (x2 : Vec F S504x8192 .bf16) (x3 : Vec F S1x8192 .f32)
    (h : Vec F S256x504 .f32) (c : Vec F S256x2048 .f32) : FVec F S256x2048 .f32 :=
  k1_pay43 (gateI x0 x1 x2 x3 h) (gateF x0 x1 x2 x3 h) (gateG x0 x1 x2 x3 h) c

/-- The first 1024 rows of the projection times the first half of the output. -/
def projLo (x0 : Vec F S1x256x128 .f32) (x1 : Vec F S128x8192 .bf16) (x2 : Vec F S504x8192 .bf16) (x3 : Vec F S1x8192 .f32)
    (x4 : Vec F S2048x504 .bf16) (h : Vec F S256x504 .f32) (c : Vec F S256x2048 .f32) : FVec F S256x504 .f32 :=
  k1_pay46 (gateI x0 x1 x2 x3 h) (gateF x0 x1 x2 x3 h) (gateG x0 x1 x2 x3 h) (bitO4 x0 x1 x2 x3 h) (bitO2 x0 x1 x2 x3 h)
    (bitO1 x0 x1 x2 x3 h) (highO x0 x1 x2 x3 h) (k1_pay42 (F := F)) c
    (View.ld x4 (Rect.unit (s := S2048x504) ![0, 0] S1024x504.size inb_S2048x504_S1024x504_0_0))

/-- The second half of the output. -/
def outHi (x0 : Vec F S1x256x128 .f32) (x1 : Vec F S128x8192 .bf16) (x2 : Vec F S504x8192 .bf16) (x3 : Vec F S1x8192 .f32)
    (h : Vec F S256x504 .f32) (c : Vec F S256x2048 .f32) : FVec F S256x1024 .bf16 :=
  k1_pay47 (gateI x0 x1 x2 x3 h) (gateF x0 x1 x2 x3 h) (gateG x0 x1 x2 x3 h) (bitO4 x0 x1 x2 x3 h) (bitO2 x0 x1 x2 x3 h)
    (bitO1 x0 x1 x2 x3 h) (highO x0 x1 x2 x3 h) (k1_pay42 (F := F)) c

/-- The new hidden state: the output times the projection, in two halves, plus the projection's bias. -/
def hNew (x0 : Vec F S1x256x128 .f32) (x1 : Vec F S128x8192 .bf16) (x2 : Vec F S504x8192 .bf16) (x3 : Vec F S1x8192 .f32)
    (x4 : Vec F S2048x504 .bf16) (x5 : Vec F S1x504 .f32) (h : Vec F S256x504 .f32) (c : Vec F S256x2048 .f32) :
    FVec F S256x504 .f32 :=
  k1_pay1 (projLo x0 x1 x2 x3 x4 h c) (outHi x0 x1 x2 x3 h c)
    (View.ld x4 (Rect.unit (s := S2048x504) ![1024, 0] S1024x504.size inb_S2048x504_S1024x504_1024_0)) x5

/-- The hidden state laid out as the step's block of the output sequence. -/
def hBlock (h : FVec F S256x504 .f32) : FVec F S256x1x1x504 .f32 :=
  shapeCast S256x1x1x504 h shapeCasts_S256x504_S256x1x1x504

/-- The state the point reads: zeros at the first point of the sequence, what the point before left elsewhere. -/
abbrev hIn (first : Prop) [Decidable first] (h : Vec F S256x504 .f32) : Vec F S256x504 .f32 := if first then k1_pay5 (F := F) else h

/-- The same for the cell state. -/
abbrev cIn (first : Prop) [Decidable first] (c : Vec F S256x2048 .f32) : Vec F S256x2048 .f32 := if first then k1_pay6 (F := F) else c

end Cert.KernelIdeal.Cell

end
-- ==== Proof.CellRun.lean ====
/- The run of one grid point of the recurrent kernel: from whole buffers at stated contents to the same buffers at the
   contents `CellValue` names. -/
module

public import proofs.«01_k».proof.Proof.CellValue
public import Idealize.ShloMosaic.Lib.Pipeline.ValueKit.Basic
public import proofs.«01_k».proof.Proof.Gen.KernelIdeal.Points
public import Idealize.ShloMosaic.Lib.Pipeline.FrameBody
public import Idealize.ShloMosaic.Lib.Tactic
public import Idealize.ShloMosaic.Lib.Ring
public import Idealize.ShloMosaic.Lib.WordCmp

@[expose] public section

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first point of the sequence: the kernel's own test for zeroing its state. -/
abbrev isFirst (i : grid1.Coords) : Prop :=
  (Scalar.cmpi .ne (Scalar.extui (Scalar.cmpi .eq (BitVec.ofNat 32 (i 1).val) 0#32)) 0#32) = 1#1

/-- The last point of the sequence: the kernel's own test for writing its final state out. -/
abbrev isLast (i : grid1.Coords) : Prop := k1_cond2 i = 1#1

/-- A whole-shape store, last, is what the buffer then reads. -/
theorem read_writes_whole {S : Shape} {e : EltTy} {κ : Kind} {sp : Space} (v : View sig κ sp S e)
    (f : v.ty.Contents (Elt F)) {off : Fin S.rank → Nat} (inb : ∀ a, off a + S.size a ≤ S.size a) (w : S.Idx → Elt F e)
    (L : List (View.Piece (Elt F) S e)) (h : ∀ a, off a = 0) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero (funext h) inb y⟩)]
  exact View.canon_cons_unit_zero (funext h) inb w L

/-- A load of a buffer held whole reads its contents through the load's rectangle. -/
theorem readAt_unread {S : Shape} {e : EltTy} {sp : Space} {a : Memref sig .tc sp S e} (ha : a.IsWhole) (x : Vec F S e)
    (r : Rect S) : View.readAt (Elt F) a.view r.toLoadRect (ha.unread x) = View.ld x r := by
  show View.ld (a.view.read (Elt F) (ha.unread x)) r = _
  rw [ha.read_unread]

/-- A load of all of a shape reads what is there; for each of the shapes the kernel loads whole. -/
theorem whole3 (x : Vec F S1x256x128 .f32) :
    View.ld x (Rect.unit (s := S1x256x128) ![0, 0, 0] ![1, 256, 128] inb_S1x256x128_S1x256x128_0_0_0) = x :=
  View.ld_unit_lit _ x (by decide)
theorem whole256x504 (x : Vec F S256x504 .f32) :
    View.ld x (Rect.unit (s := S256x504) ![0, 0] ![256, 504] inb_S256x504_S256x504_0_0) = x := View.ld_unit_lit _ x (by decide)
theorem whole256x2048 (x : Vec F S256x2048 .f32) :
    View.ld x (Rect.unit (s := S256x2048) ![0, 0] ![256, 2048] inb_S256x2048_S256x2048_0_0) = x := View.ld_unit_lit _ x (by decide)
theorem whole1x504 (x : Vec F S1x504 .f32) :
    View.ld x (Rect.unit (s := S1x504) ![0, 0] ![1, 504] inb_S1x504_S1x504_0_0) = x := View.ld_unit_lit _ x (by decide)

set_option maxHeartbeats 4000000 in
/-- ONE POINT of the recurrent kernel. From the input row, the weights and the projection at any contents, the state at
    what the point before left, and the outputs at anything, it ends with the inputs as they were, the state and the
    step's output block at the new hidden and cell state, and the two final outputs at the new state if this is the last
    point and as they were found otherwise. -/
theorem run (c : Dev nD) (i : grid1.Coords) (arg2 : Memref sig .tc .vmem S1x256x128 .f32) (harg2 : arg2.IsWhole)
    (arg3 : Memref sig .tc .vmem S128x8192 .bf16) (harg3 : arg3.IsWhole)
    (arg4 : Memref sig .tc .vmem S504x8192 .bf16) (harg4 : arg4.IsWhole)
    (arg5 : Memref sig .tc .vmem S1x8192 .f32) (harg5 : arg5.IsWhole)
    (arg6 : Memref sig .tc .vmem S2048x504 .bf16) (harg6 : arg6.IsWhole)
    (arg7 : Memref sig .tc .vmem S1x504 .f32) (harg7 : arg7.IsWhole)
    (arg8 : Memref sig .tc .vmem S256x1x1x504 .f32) (harg8 : arg8.IsWhole)
    (arg9 : Memref sig .tc .vmem S256x504 .f32) (harg9 : arg9.IsWhole)
    (arg10 : Memref sig .tc .vmem S256x2016 .f32) (harg10 : arg10.IsWhole)
    (arg11 : Memref sig .tc .vmem S256x504 .f32) (harg11 : arg11.IsWhole)
    (arg12 : Memref sig .tc .vmem S256x2048 .f32) (harg12 : arg12.IsWhole)
    (arg13 : Memref sig .tc .vmem S256x504 .f32) (harg13 : arg13.IsWhole)
    (x0 : Vec F S1x256x128 .f32) (x1 : Vec F S128x8192 .bf16) (x2 : Vec F S504x8192 .bf16) (x3 : Vec F S1x8192 .f32)
    (x4 : Vec F S2048x504 .bf16) (x5 : Vec F S1x504 .f32) (o7 : Vec F S256x504 .f32) (o8 : Vec F S256x2016 .f32)
    (hs : Vec F S256x504 .f32) (cs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare o7 ∗ owns (c : Thread nD τ) arg10 fullShare o8
        ∗ owns (c : Thread nD τ) arg11 fullShare hs ∗ owns (c : Thread nD τ) arg12 fullShare cs ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (hBlock (hNew x0 x1 x2 x3 x4 x5 (hIn (isFirst i) hs) (cIn (isFirst i) cs)))
            ∗ owns (c : Thread nD τ) arg9 fullShare (if isLast i then hNew x0 x1 x2 x3 x4 x5 (hIn (isFirst i) hs) (cIn (isFirst i) cs) else o7)
            ∗ owns (c : Thread nD τ) arg10 fullShare (if isLast i then k1_pay4 (cNew x0 x1 x2 x3 (hIn (isFirst i) hs) (cIn (isFirst i) cs)) else o8)
            ∗ owns (c : Thread nD τ) arg11 fullShare (hNew x0 x1 x2 x3 x4 x5 (hIn (isFirst i) hs) (cIn (isFirst i) cs))
            ∗ owns (c : Thread nD τ) arg12 fullShare (cNew x0 x1 x2 x3 (hIn (isFirst i) hs) (cIn (isFirst i) cs))
            ∗ (∃ d, owns (c : Thread nD τ) arg13 fullShare d)) -∗ K ⟨⟩))
      ⊢ wp frame (wpE (defs₀ (F := F)) Variants.none c none) E (cc1_lstm_adc i arg2 harg2 arg3 harg3 arg4 harg4 arg5 harg5 arg6 harg6 arg7 harg7 arg8 harg8 arg9 harg9 arg10 harg10 arg11 harg11 arg12 harg12 arg13 harg13) K := by
  simp only [cc1_lstm_adc_eq_skeleton]; unfold cc1_lstm_adc_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
  by_cases hc0 : isFirst i <;> by_cases hc1 : isLast i
  all_goals
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_writes_whole _ _ _ _ _ (by decide)]
      unfold hIn cIn; first | rw [if_pos hc0, if_pos hc0] | rw [if_neg hc0, if_neg hc0]
      sl_unfold_words
      simp only [View.readCov_cons_toLoadRect, readAt_unread harg2, readAt_unread harg3, readAt_unread harg4, readAt_unread harg5, readAt_unread harg6, readAt_unread harg7, readAt_unread harg11, readAt_unread harg12, whole3, whole256x504, whole256x2048, whole1x504]
      simp only [k1_pay2, k1_pay3, k1_pay44, shapeCast_self]
      rfl
    isplitl [H7]
    · iexists _; isplitr; swap; · iexact H7
      ipureintro
      first
        | rw [if_neg hc1]; exact hf7
        | rw [if_pos hc1, read_writes_whole _ _ _ _ _ (by decide)]
          unfold hIn cIn; first | rw [if_pos hc0, if_pos hc0] | rw [if_neg hc0, if_neg hc0]
          sl_unfold_words
          simp only [View.readCov_cons_toLoadRect, readAt_unread harg2, readAt_unread harg3, readAt_unread harg4, readAt_unread harg5, readAt_unread harg6, readAt_unread harg7, readAt_unread harg11, readAt_unread harg12, whole3, whole256x504, whole256x2048, whole1x504]
          rfl
    isplitl [H8]
    · iexists _; isplitr; swap; · iexact H8
      ipureintro
      first
        | rw [if_neg hc1]; exact hf8
        | rw [if_pos hc1, read_writes_whole _ _ _ _ _ (by decide)]
          unfold hIn cIn; first | rw [if_pos hc0, if_pos hc0] | rw [if_neg hc0, if_neg hc0]
          sl_unfold_words
          simp only [View.readCov_cons_toLoadRect, readAt_unread harg2, readAt_unread harg3, readAt_unread harg4, readAt_unread harg5, readAt_unread harg6, readAt_unread harg7, readAt_unread harg11, readAt_unread harg12, whole3, whole256x504, whole256x2048, whole1x504]
          rfl
    isplitl [HS0]
    · iexists _; isplitr; swap; · iexact HS0
      ipureintro
      rw [read_writes_whole _ _ _ _ _ (by decide)]
      unfold hIn cIn; first | rw [if_pos hc0, if_pos hc0] | rw [if_neg hc0, if_neg hc0]
      sl_unfold_words
      simp only [View.readCov_cons_toLoadRect, readAt_unread harg2, readAt_unread harg3, readAt_unread harg4, readAt_unread harg5, readAt_unread harg6, readAt_unread harg7, readAt_unread harg11, readAt_unread harg12, whole3, whole256x504, whole256x2048, whole1x504]
      simp only [k1_pay2, k1_pay3, k1_pay44, shapeCast_self]
      rfl
    isplitl [HS1]
    · iexists _; isplitr; swap; · iexact HS1
      ipureintro
      rw [read_writes_whole _ _ _ _ _ (by decide)]
      unfold hIn cIn; first | rw [if_pos hc0, if_pos hc0] | rw [if_neg hc0, if_neg hc0]
      sl_unfold_words
      simp only [View.readCov_cons_toLoadRect, readAt_unread harg2, readAt_unread harg3, readAt_unread harg4, readAt_unread harg5, readAt_unread harg6, readAt_unread harg7, readAt_unread harg11, readAt_unread harg12, whole3, whole256x504, whole256x2048, whole1x504]
      simp only [k1_pay2, k1_pay3, k1_pay44, shapeCast_self]
      rfl
    iexists _, _; isplitr; swap; · iexact HS2
    ipureintro; rfl

end Cert.KernelIdeal.Cell

end
-- ==== Proof.CellDat.lean ====
/- The recurrent launch: what the state holds after each point, the launch's proof data, and the proof that the body
   keeps them. -/
module

public import proofs.«01_k».proof.Proof.CellRun
public import proofs.«01_k».proof.Proof.Gen.KernelIdeal.Launch

@[expose] public section

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Valuation τ sig (Elt F))

/-- Window `w`'s block at point `t`, read off its array as the launch finds it. -/
def iblk (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The point that treats sequence position `n`. -/
def pt (n : ℕ) : Fin cfg1.N := ⟨n % 256, Nat.lt_of_lt_of_eq (Nat.mod_lt n (by decide)) N_1.symm⟩

/-- The point of sequence position `t` is `t` itself. -/
theorem pt_val (t : Fin cfg1.N) : pt t.val = t :=
  Fin.ext (Nat.mod_eq_of_lt (Nat.lt_of_lt_of_eq t.isLt N_1))

/-- The kernel's state, hidden and cell, before point `n`: zero at first, then each point's own step. -/
def st : ℕ → Vec F S256x504 .f32 × Vec F S256x2048 .f32
  | 0 => (k1_pay5, k1_pay6)
  | n + 1 =>
    (hNew (iblk V 0 (pt n)) (iblk V 1 (pt n)) (iblk V 2 (pt n)) (iblk V 3 (pt n)) (iblk V 4 (pt n)) (iblk V 5 (pt n)) (st n).1 (st n).2,
      cNew (iblk V 0 (pt n)) (iblk V 1 (pt n)) (iblk V 2 (pt n)) (iblk V 3 (pt n)) (st n).1 (st n).2)

/-- The hidden state after one more point. -/
theorem st_succ_1 (n : ℕ) : (st V (n + 1)).1
    = hNew (iblk V 0 (pt n)) (iblk V 1 (pt n)) (iblk V 2 (pt n)) (iblk V 3 (pt n)) (iblk V 4 (pt n)) (iblk V 5 (pt n)) (st V n).1 (st V n).2 := by
  rw [st]
/-- The cell state after one more point. -/
theorem st_succ_2 (n : ℕ) : (st V (n + 1)).2
    = cNew (iblk V 0 (pt n)) (iblk V 1 (pt n)) (iblk V 2 (pt n)) (iblk V 3 (pt n)) (st V n).1 (st V n).2 := by
  rw [st]

/-- The three scratch buffers. -/
abbrev scM0 : Memref sig .tc .vmem S256x504 .f32 := Memref.whole cc1_scratch0
abbrev scM1 : Memref sig .tc .vmem S256x2048 .f32 := Memref.whole cc1_scratch1
abbrev scM2 : Memref sig .tc .vmem S256x504 .f32 := Memref.whole cc1_scratch2

/-- The other launch's staging buffers, which this one leaves alone. -/
def others (c : Dev nD) : sProp 𝕄 :=
  iprop((∃ f, ((c : Thread nD τ).loc cc0_stg0_0) ↦{fullShare} f) ∗ (∃ f, ((c : Thread nD τ).loc cc0_stg0_1) ↦{fullShare} f)
    ∗ (∃ f, ((c : Thread nD τ).loc cc0_stg1_0) ↦{fullShare} f) ∗ (∃ f, ((c : Thread nD τ).loc cc0_stg1_1) ↦{fullShare} f)
    ∗ (∃ f, ((c : Thread nD τ).loc cc0_stg2_0) ↦{fullShare} f) ∗ (∃ f, ((c : Thread nD τ).loc cc0_stg2_1) ↦{fullShare} f))

/-- The invariant before point `n`: at first every scratch at anything; afterwards the two carried ones at the state. -/
def PhiS (c : Dev nD) : (n : ℕ) → n ≤ cfg1.N → sProp 𝕄
  | 0, _ => Pipeline.ΦA spec1 c
  | n + 1, _ => iprop(iprop(owns (c : Thread nD τ) scM0 fullShare (st V (n + 1)).1 ∗ owns (c : Thread nD τ) scM1 fullShare (st V (n + 1)).2
      ∗ (∃ d, owns (c : Thread nD τ) scM2 fullShare d) ∗ others c) ∗ (∃ r, prngReg c r))

/-- Before the first point nothing is said of the scratch. -/
theorem PhiS_zero (c : Dev nD) (n : ℕ) (h : n ≤ cfg1.N) (hz : n = 0) : PhiS V c n h = Pipeline.ΦA spec1 c := by
  subst hz; rfl

/-- After a point the scratch holds the states of that point. -/
theorem PhiS_succ (c : Dev nD) (n : ℕ) (hn : n + 1 ≤ cfg1.N) :
    PhiS V c (n + 1) hn = iprop(iprop(owns (c : Thread nD τ) scM0 fullShare (st V (n + 1)).1 ∗ owns (c : Thread nD τ) scM1 fullShare (st V (n + 1)).2
      ∗ (∃ d, owns (c : Thread nD τ) scM2 fullShare d) ∗ others c) ∗ (∃ r, prngReg c r)) := rfl

/-- Before any later point too. -/
theorem PhiS_pos (c : Dev nD) (n : ℕ) (h : n ≤ cfg1.N) (hz : n ≠ 0) :
    PhiS V c n h = iprop(iprop(owns (c : Thread nD τ) scM0 fullShare (st V n).1 ∗ owns (c : Thread nD τ) scM1 fullShare (st V n).2
      ∗ (∃ d, owns (c : Thread nD τ) scM2 fullShare d) ∗ others c) ∗ (∃ r, prngReg c r)) := by
  cases n with
  | zero => exact absurd rfl hz
  | succ n => rfl

/-- Every scratch at anything, with the other launch's staging buffers. -/
def scratchAny (c : Dev nD) : sProp 𝕄 :=
  iprop(iprop((∃ d, owns (c : Thread nD τ) scM0 fullShare d) ∗ (∃ d, owns (c : Thread nD τ) scM1 fullShare d)
      ∗ (∃ d, owns (c : Thread nD τ) scM2 fullShare d) ∗ others c) ∗ (∃ r, prngReg c r))

/-- The launch's scratch, taken apart into its three buffers. -/
theorem PhiA_open (c : Dev nD) : (Pipeline.ΦA spec1 c : sProp 𝕄) ⊢ scratchAny c := by
  unfold Pipeline.ΦA scratchAny others; rw [scopedRest1_eq]; simp only [scM0, scM1, scM2, owns_whole]
  iintro ⟨⟨A0, A1, A2, A3, A4, A5, S0, S1, S2⟩, Hg⟩
  isplitr [Hg]
  · isplitl [S0]; · iexact S0
    isplitl [S1]; · iexact S1
    isplitl [S2]; · iexact S2
    isplitl [A0]; · iexact A0
    isplitl [A1]; · iexact A1
    isplitl [A2]; · iexact A2
    isplitl [A3]; · iexact A3
    isplitl [A4]; · iexact A4
    iexact A5
  iexact Hg

/-- And put together again. -/
theorem PhiA_close (c : Dev nD) : scratchAny c ⊢ (Pipeline.ΦA spec1 c : sProp 𝕄) := by
  unfold Pipeline.ΦA scratchAny others; rw [scopedRest1_eq]; simp only [scM0, scM1, scM2, owns_whole]
  iintro ⟨⟨S0, S1, S2, A0, A1, A2, A3, A4, A5⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [S0]; · iexact S0
    isplitl [S1]; · iexact S1
    iexact S2
  iexact Hg

/-- The launch's proof data on core `c`: the arrays as found; each input's buffer left at its block, the step's output at
    the new hidden state, the two final outputs at the new state; the invariant `PhiS`. -/
def dat (c : Dev nD) : Dat τ (Elt F) Unit ℕ (UR sig nD τ) ℕ cfg1 c where
  A w := V (Proc.devRef .tc (Pipeline.arrRef spec1 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => hBlock (st V (t.val + 1)).1
    | ⟨7, _⟩ => (st V (t.val + 1)).1
    | ⟨8, _⟩ => k1_pay4 (st V (t.val + 1)).2
  Φ t := PhiS V c t.val (Nat.le_of_lt_succ t.isLt)
  q _ := fullShare
  owed _ := 0

/-- The arrays the launch starts from. -/
theorem A_eq (c : Dev nD) (w : Fin cfg1.W) : (dat V c).A w = V (Proc.devRef .tc (Pipeline.arrRef spec1 w)) := by dsimp only [dat]
/-- What is said of the scratch before a point. -/
theorem PhiS_castSucc (c : Dev nD) (t : Fin cfg1.N) : (dat V c).Φ t.castSucc = PhiS V c t.val (Nat.le_of_lt t.isLt) := by
  dsimp only [dat]; exact Pipeline.Dat.Φ_castSucc (PhiS V c) t
theorem after_0 (c : Dev nD) (t : Fin cfg1.N) : (dat V c).after 0 t = iblk V 0 t := by dsimp only [dat]
theorem after_1 (c : Dev nD) (t : Fin cfg1.N) : (dat V c).after 1 t = iblk V 1 t := by dsimp only [dat]
theorem after_2 (c : Dev nD) (t : Fin cfg1.N) : (dat V c).after 2 t = iblk V 2 t := by dsimp only [dat]
theorem after_3 (c : Dev nD) (t : Fin cfg1.N) : (dat V c).after 3 t = iblk V 3 t := by dsimp only [dat]
theorem after_4 (c : Dev nD) (t : Fin cfg1.N) : (dat V c).after 4 t = iblk V 4 t := by dsimp only [dat]
theorem after_5 (c : Dev nD) (t : Fin cfg1.N) : (dat V c).after 5 t = iblk V 5 t := by dsimp only [dat]
theorem after_6 (c : Dev nD) (t : Fin cfg1.N) : (dat V c).after 6 t = hBlock (st V (t.val + 1)).1 := by dsimp only [dat]
theorem after_7 (c : Dev nD) (t : Fin cfg1.N) : (dat V c).after 7 t = (st V (t.val + 1)).1 := by dsimp only [dat]
theorem after_8 (c : Dev nD) (t : Fin cfg1.N) : (dat V c).after 8 t = k1_pay4 (st V (t.val + 1)).2 := by dsimp only [dat]

/-- An input's current buffer holds its block at every point, fetched there or not. -/
theorem before_0 (c : Dev nD) (t : Fin cfg1.N) (d) : (dat V c).before 0 t d = iblk V 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The first point is point 0, -/
theorem first_iff (t : Fin cfg1.N) : isFirst (grid1.coords t) ↔ t.val = 0 := by
  have ht : t.val < 256 := Nat.lt_of_lt_of_eq t.isLt N_1
  have e1 : (grid1.coords t 1).val = t.val / 1 % 256 := Pipeline.Grid.coords_val t 1 (by decide) rfl
  have h : isFirst (grid1.coords t) ↔ t.val % 256 = 0 := by
    simp only [isFirst, e1]; word_cmp
  rw [h]; omega

/-- and the last is point 255. -/
theorem last_iff (t : Fin cfg1.N) : isLast (grid1.coords t) ↔ t.val = 255 := by
  have ht : t.val < 256 := Nat.lt_of_lt_of_eq t.isLt N_1
  have e1 : (grid1.coords t 1).val = t.val / 1 % 256 := Pipeline.Grid.coords_val t 1 (by decide) rfl
  have h : isLast (grid1.coords t) ↔ t.val % 256 = 255 := by
    simp only [isLast, k1_cond2, e1]; word_cmp
  rw [h]; omega

/-- The step from before point `t`: whatever is carried in at the first point is ignored. -/
theorem step_h (t : Fin cfg1.N) (hs : Vec F S256x504 .f32) (cs : Vec F S256x2048 .f32) (h : t.val ≠ 0 → hs = (st V t.val).1 ∧ cs = (st V t.val).2) :
    hNew (iblk V 0 t) (iblk V 1 t) (iblk V 2 t) (iblk V 3 t) (iblk V 4 t) (iblk V 5 t) (hIn (isFirst (grid1.coords t)) hs) (cIn (isFirst (grid1.coords t)) cs)
      = (st V (t.val + 1)).1
    ∧ cNew (iblk V 0 t) (iblk V 1 t) (iblk V 2 t) (iblk V 3 t) (hIn (isFirst (grid1.coords t)) hs) (cIn (isFirst (grid1.coords t)) cs)
      = (st V (t.val + 1)).2 := by
  rw [st_succ_1, st_succ_2, pt_val]
  unfold hIn cIn
  by_cases hz : t.val = 0
  · rw [if_pos ((first_iff t).mpr hz), if_pos ((first_iff t).mpr hz), hz]
    exact ⟨rfl, rfl⟩
  · rw [if_neg fun h => hz ((first_iff t).mp h), if_neg fun h => hz ((first_iff t).mp h), (h hz).1, (h hz).2]
    exact ⟨rfl, rfl⟩

/-- The buffers the body is called with at point `t`. -/
abbrev ms0 (t : Fin cfg1.N) : Memref sig .tc .vmem S1x256x128 .f32 := win1_0.stage (cfg1.slots t 0)
abbrev ms1 (t : Fin cfg1.N) : Memref sig .tc .vmem S128x8192 .bf16 := win1_1.stage (cfg1.slots t 1)
abbrev ms2 (t : Fin cfg1.N) : Memref sig .tc .vmem S504x8192 .bf16 := win1_2.stage (cfg1.slots t 2)
abbrev ms3 (t : Fin cfg1.N) : Memref sig .tc .vmem S1x8192 .f32 := win1_3.stage (cfg1.slots t 3)
abbrev ms4 (t : Fin cfg1.N) : Memref sig .tc .vmem S2048x504 .bf16 := win1_4.stage (cfg1.slots t 4)
abbrev ms5 (t : Fin cfg1.N) : Memref sig .tc .vmem S1x504 .f32 := win1_5.stage (cfg1.slots t 5)
abbrev ms6 (t : Fin cfg1.N) : Memref sig .tc .vmem S256x1x1x504 .f32 := win1_6.stage (cfg1.slots t 6)
abbrev ms7 (t : Fin cfg1.N) : Memref sig .tc .vmem S256x504 .f32 := win1_7.stage (cfg1.slots t 7)
abbrev ms8 (t : Fin cfg1.N) : Memref sig .tc .vmem S256x2016 .f32 := win1_8.stage (cfg1.slots t 8)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t
    ∗ (dat V c).leavesExact 8 t)

/-- Before any point the scratch is at something, which is the state unless the point is the first. -/
theorem Phi_open (c : Dev nD) (t : Fin cfg1.N) : (dat V c).Φ t.castSucc
    ⊢ (iprop(∃ hs cs, ⌜t.val ≠ 0 → hs = (st V t.val).1 ∧ cs = (st V t.val).2⌝
      ∗ owns (c : Thread nD τ) scM0 fullShare hs ∗ owns (c : Thread nD τ) scM1 fullShare cs
      ∗ (∃ d, owns (c : Thread nD τ) scM2 fullShare d) ∗ others c ∗ (∃ r, prngReg c r)) : sProp 𝕄) := by
  rw [PhiS_castSucc]
  by_cases hz : t.val = 0
  · rw [PhiS_zero V c _ _ hz]
    refine (PhiA_open c).trans ?_
    unfold scratchAny
    iintro ⟨⟨⟨%hs, HS0⟩, ⟨%cs, HS1⟩, HS2, HA⟩, Hg⟩
    iexists hs, cs
    isplitr; · ipureintro; exact fun h => absurd hz h
    isplitl [HS0]; · iexact HS0
    isplitl [HS1]; · iexact HS1
    isplitl [HS2]; · iexact HS2
    isplitl [HA]; · iexact HA
    iexact Hg
  · rw [PhiS_pos V c _ _ hz]
    iintro ⟨⟨HS0, HS1, HS2, HA⟩, Hg⟩
    iexists (st V t.val).1, (st V t.val).2
    isplitr; · ipureintro; exact fun _ => ⟨rfl, rfl⟩
    isplitl [HS0]; · iexact HS0
    isplitl [HS1]; · iexact HS1
    isplitl [HS2]; · iexact HS2
    isplitl [HA]; · iexact HA
    iexact Hg

/-- A final output is left at its new contents at the last point, and as found before it. -/
theorem leaves_7 (c : Dev nD) (t : Fin cfg1.N) (d) :
    owns (c : Thread nD τ) (ms7 t) fullShare (if isLast (grid1.coords t) then (st V (t.val + 1)).1 else (dat V c).before 7 t d)
      ⊢ ((dat V c).leavesExact 7 t : sProp 𝕄) := by
  by_cases hl : isLast (grid1.coords t)
  · rw [if_pos hl, show (dat V c).leavesExact 7 t = owns (c : Thread nD τ) (ms7 t) fullShare ((dat V c).after 7 t) from by
      unfold Dat.leavesExact
      rw [show cfg1.idle 7 (cfg1.grid.coords t) = false from by
        show (!(k1_cond2 (grid1.coords t) == 1#1)) = false
        rw [show k1_cond2 (grid1.coords t) = 1#1 from hl]; rfl], after_7]
  · rw [if_neg hl, (dat V c).leavesExact_idle 7 t
      (by show (!(k1_cond2 (grid1.coords t) == 1#1)) = true
          rw [Bool.not_eq_true', beq_eq_false_iff_ne]; exact hl)
      (by rw [Bool.eq_false_iff]; exact fun h => hl ((last_iff t).mpr (by
          have := (flush1_7 t).mp h; have ht : t.val < 256 := Nat.lt_of_lt_of_eq t.isLt N_1; omega)))]
    iintro H; iexists d; iexact H
/-- Only the last point stores the last cell state. -/
theorem leaves_8 (c : Dev nD) (t : Fin cfg1.N) (d) :
    owns (c : Thread nD τ) (ms8 t) fullShare (if isLast (grid1.coords t) then k1_pay4 (st V (t.val + 1)).2 else (dat V c).before 8 t d)
      ⊢ ((dat V c).leavesExact 8 t : sProp 𝕄) := by
  by_cases hl : isLast (grid1.coords t)
  · rw [if_pos hl, show (dat V c).leavesExact 8 t = owns (c : Thread nD τ) (ms8 t) fullShare ((dat V c).after 8 t) from by
      unfold Dat.leavesExact
      rw [show cfg1.idle 8 (cfg1.grid.coords t) = false from by
        show (!(k1_cond2 (grid1.coords t) == 1#1)) = false
        rw [show k1_cond2 (grid1.coords t) = 1#1 from hl]; rfl], after_8]
  · rw [if_neg hl, (dat V c).leavesExact_idle 8 t
      (by show (!(k1_cond2 (grid1.coords t) == 1#1)) = true
          rw [Bool.not_eq_true', beq_eq_false_iff_ne]; exact hl)
      (by rw [Bool.eq_false_iff]; exact fun h => hl ((last_iff t).mpr (by
          have := (flush1_8 t).mp h; have ht : t.val < 256 := Nat.lt_of_lt_of_eq t.isLt N_1; omega)))]
    iintro H; iexists d; iexact H

set_option maxHeartbeats 4000000 in
/-- The body at any point, from what it is called with to what it returns. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [show cfg1.idle 0 (cfg1.grid.coords t) = false from rfl], after_0]
  rw [show (dat V c).leavesExact 1 t = owns (c : Thread nD τ) (ms1 t) fullShare ((dat V c).after 1 t) from by
    unfold Dat.leavesExact; rw [show cfg1.idle 1 (cfg1.grid.coords t) = false from rfl], after_1]
  rw [show (dat V c).leavesExact 2 t = owns (c : Thread nD τ) (ms2 t) fullShare ((dat V c).after 2 t) from by
    unfold Dat.leavesExact; rw [show cfg1.idle 2 (cfg1.grid.coords t) = false from rfl], after_2]
  rw [show (dat V c).leavesExact 3 t = owns (c : Thread nD τ) (ms3 t) fullShare ((dat V c).after 3 t) from by
    unfold Dat.leavesExact; rw [show cfg1.idle 3 (cfg1.grid.coords t) = false from rfl], after_3]
  rw [show (dat V c).leavesExact 4 t = owns (c : Thread nD τ) (ms4 t) fullShare ((dat V c).after 4 t) from by
    unfold Dat.leavesExact; rw [show cfg1.idle 4 (cfg1.grid.coords t) = false from rfl], after_4]
  rw [show (dat V c).leavesExact 5 t = owns (c : Thread nD τ) (ms5 t) fullShare ((dat V c).after 5 t) from by
    unfold Dat.leavesExact; rw [show cfg1.idle 5 (cfg1.grid.coords t) = false from rfl], after_5]
  rw [show (dat V c).leavesExact 6 t = owns (c : Thread nD τ) (ms6 t) fullShare ((dat V c).after 6 t) from by
    unfold Dat.leavesExact; rw [show cfg1.idle 6 (cfg1.grid.coords t) = false from rfl], after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (Phi_open V c t) $$ HΦ
  icases HΦ' with ⟨%hs, %cs, %hst, HS0, HS1, HS2, HA, Hg⟩
  obtain ⟨eh, ec⟩ := step_h V t hs cs hst
  iapply (run c (grid1.coords t) _ _ _ _ _ _ _ _ _ _ _ _ _ _ _ _ _ _ _ _ _ _ _ _ (iblk V 0 t) (iblk V 1 t) (iblk V 2 t) (iblk V 3 t) (iblk V 4 t) (iblk V 5 t)
    ((dat V c).before 7 t d7) ((dat V c).before 8 t d8) hs cs Set.univ _)
  rw [eh, ec]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HA Hg]
  · isplitl [HS0 HS1 HS2 HA]
    · isplitl [HS0]; · iexact HS0
      isplitl [HS1]; · iexact HS1
      isplitl [HS2]; · iexact HS2
      iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_7 V c t d7); iexact H7
  iapply (leaves_8 V c t d8); iexact H8

/-- The body table's row at point `t` is the body. -/
theorem defs₀_row (t : Fin cfg1.N) :
    defs₀ (F := F) .tc cfg1.body (cfg1.bodyArgs t (cfg1.slots t)) = bodyAt1 t := by
  unfold defs₀; rw [Defs.onTc_tc]

/-- The launch's body obligation. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the region hands the launch is the invariant before the first point, -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- and the invariant after the last gives it back. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  refine BIBase.Entails.trans ?_ (PhiA_close c)
  unfold scratchAny
  iintro ⟨⟨HS0, HS1, HS2, HA⟩, Hg⟩
  isplitl [HS0 HS1 HS2 HA]
  · isplitl [HS0]; · iexists _; iexact HS0
    isplitl [HS1]; · iexists _; iexact HS1
    isplitl [HS2]; · iexact HS2
    iexact HA
  iexact Hg

end Cert.KernelIdeal.Cell

end
-- ==== Proof.Whole.lean ====
/- The run of the whole kernel: its two launches between the host's operations, and what every buffer holds at the end. -/
module

public import proofs.«01_k».proof.Proof.Prep
public import proofs.«01_k».proof.Proof.CellDat
public import proofs.«01_k».proof.Proof.Gen.KernelIdeal.Regions
public import Idealize.ShloMosaic.Lib.Pipeline.RegionArraysS
public import Idealize.ShloMosaic.Lib.Claim

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the weight preparation leaves in a buffer. -/
def prepOuts : Outs (F := F) := fun _ r c => Pipeline.afterRegion (Prep.dat (V4 m c) c) (V4 m c) (Proc.devRef .tc r)

/-- Every buffer as the recurrent launch finds it. -/
abbrev VC (c : Dev nD) : Valuation τ sig (Elt F) := V10 m (prepOuts m) c

/-- What each launch leaves in a buffer. -/
def outs : Outs (F := F) := fun n r c =>
  if n = 5 then prepOuts m n r c else Pipeline.afterRegion (Cell.dat (VC m c) c) (VC m c) (Proc.devRef .tc r)

/-- The recurrent launch finds the same buffers whatever it will leave itself. -/
theorem V10_outs (c : Dev nD) : V10 m (outs m) c = VC m c := by
  have h : V5 m (outs m) c = V5 m (prepOuts m) c := rfl
  show StableHlo.after hostOps1_4 (StableHlo.after hostOps1_3 (StableHlo.after hostOps1_2 (StableHlo.after hostOps1_1 (StableHlo.after hostOps1 (V5 m (outs m) c))))) = _
  rw [h]

/-- The two launches' proof data. -/
def dats : (p : Fin 2) → (c : Dev nD) → Dat τ (Elt F) Unit ℕ (UR sig nD τ) ℕ (cfgs p) c
  | ⟨0, _⟩, c => Prep.dat (V4 m c) c
  | ⟨1, _⟩, c => Cell.dat (VC m c) c

abbrev EP : Emb (UR sig nD τ) 𝕄 := emb₁

/-- No core owes another anything; a core waits only on its own transfers. -/
def L : GSem nD τ sig → Finset Unit := fun g => if g.1.2 = .tc then {()} else ∅
abbrev lv : GSem nD τ sig → Unit → ℕ := fun _ _ => 0

/-- What rides beside the buffers: what the core owes, which is nothing, and its generator. -/
def E (_ : Fin 3) (c : Dev nD) : sProp 𝕄 :=
  iprop((∃ W, owes (c : Thread nD τ) (0 : CellTallies nD τ sig Unit) W) ∗ ((∃ r, prngReg c r) ∗ emp))

/-- No transfer waits across levels. -/
theorem cut (p : Fin 2) : Pipeline.LevelCut (pcfgs (F := F)) adm () L lv p (fun _ => 0) (fun _ => 0) where
  hι _ _ _ := by unfold L; rw [if_pos rfl]; exact Finset.mem_singleton.mpr rfl
  hιb _ _ _ := le_refl _
  hD _ _ _ h := absurd h (lt_irrefl _)

/-- The weight preparation as a segment of the run, -/
def R0 : Pipeline.RegionSeg (pcfgs (F := F)) adm (dats m) () defs₀ Variants.none L lv 0 :=
  Pipeline.RegionSeg.ofHeldIn (pcfgs (F := F)) adm (dats m) () defs₀ Variants.none L lv 0 (fun _ => 0) (Pipeline.ucRefs τ sig)
    (fun c => iprop(∃ r, prngReg c r)) (fun c => iprop(∃ r, prngReg c r)) launch0.toP rfl
    (fun c => (Prep.body_obligation (V4 m c) c).loose) (fun _ _ => rfl) (fun _ => rfl)
    (fun c => (Prep.dat (V4 m c) c).share_full fun _ => rfl)
    (fun c => .rfl) (fun c => .rfl) (fun _ => 0) (cut 0) (fun _ => iprop(emp)) (fun c => V4 m c)
    (fun c w => Prep.A_eq (V4 m c) c w)

/-- and the recurrent launch. -/
def R1 : Pipeline.RegionSeg (pcfgs (F := F)) adm (dats m) () defs₀ Variants.none L lv 1 :=
  Pipeline.RegionSeg.ofHeldIn (pcfgs (F := F)) adm (dats m) () defs₀ Variants.none L lv 1 (fun _ => 0) (Pipeline.ucRefs τ sig)
    (fun c => iprop(∃ r, prngReg c r)) (fun c => iprop(∃ r, prngReg c r)) launch1.toP rfl
    (fun c => (Cell.body_obligation (VC m c) c).loose) (fun _ _ => rfl) (fun _ => rfl)
    (fun c => (Cell.dat (VC m c) c).share_full fun _ => rfl)
    (fun c => Cell.hin (VC m c) c) (fun c => Cell.hout (VC m c) c) (fun _ => 0) (cut 1) (fun _ => iprop(emp)) (fun c => VC m c)
    (fun c w => Cell.A_eq (VC m c) c w)

/-- The first launch's arrays are buffers the cores keep. -/
theorem sub0 : Pipeline.arrRefs (τ := τ) spec0 ⊆ Pipeline.ucRefs τ sig := Pipeline.arrRefs_sub_ucRefs _ winFacts0.arr_unscoped
/-- So are the second's. -/
theorem sub1 : Pipeline.arrRefs (τ := τ) spec1 ⊆ Pipeline.ucRefs τ sig := Pipeline.arrRefs_sub_ucRefs _ winFacts1.arr_unscoped

/-- A kept buffer is a named one. -/
theorem ref_of_uc {b : DevRef τ sig} (hb : b ∈ Pipeline.ucRefs τ sig) : ∃ r : Ref sig .tc, b = Proc.devRef .tc r := by
  obtain ⟨r, -, e⟩ := Finset.mem_map.mp (Finset.mem_filter.mp hb).1
  exact ⟨r, e.symm⟩

/-- Every unscoped buffer after the weight preparation is as the next stretch expects it: -/
theorem after0 (c : Dev nD) (b : DevRef τ sig) (hb : b ∈ Pipeline.ucRefs τ sig) :
    Pipeline.afterRegion (Prep.dat (V4 m c) c) (V4 m c) b = V5 m (outs m) c b := by
  obtain ⟨r, rfl⟩ := ref_of_uc hb
  by_cases h : r = main_v4
  · subst h
    exact (Function.update_self (β := fun b : DevRef τ sig => b.ty.Contents (Elt F)) (Proc.devRef .tc main_v4) _ _).symm
  · rw [V5_of m (outs m) c r (by simpa using h)]
    exact Pipeline.afterRegion_keeps (Prep.dat (V4 m c) c) (V4 m c) winFacts0.arr_inj (Prep.A_eq (V4 m c) c) r (by
      intro w e; revert h; subst e; revert w; decide)

/-- and so after the recurrent launch. -/
theorem after1 (c : Dev nD) (b : DevRef τ sig) (hb : b ∈ Pipeline.ucRefs τ sig) :
    Pipeline.afterRegion (Cell.dat (VC m c) c) (VC m c) b = V11 m (outs m) c b := by
  obtain ⟨r, rfl⟩ := ref_of_uc hb
  by_cases h : r ∈ ([main_v18_0, main_v18_1, main_v18_2] : List (Ref sig .tc))
  · rw [V11, V10_outs]
    fin_cases h
    · rw [Function.update_of_ne (by decide), Function.update_of_ne (by decide), Function.update_self]; rfl
    · rw [Function.update_of_ne (by decide), Function.update_self]; rfl
    · rw [Function.update_self]; rfl
  · rw [V11_of m (outs m) c r h, V10_outs]
    exact Pipeline.afterRegion_keeps (Cell.dat (VC m c) c) (VC m c) winFacts1.arr_inj (Cell.A_eq (VC m c) c) r (by
      intro w e; revert h; subst e; revert w; decide)

/-- The first launch starts from what the host left. -/
theorem pre0 (c : Dev nD) : iprop(StableHlo.held (c : Thread nD τ) (Pipeline.ucRefs τ sig) (V4 m c) ∗ E 0 c) ⊢ (R0 m).pre c := by
  show _ ⊢ iprop(StableHlo.held (c.tc : Thread nD τ) (Pipeline.arrRefs spec0) (V4 m c) ∗ (∃ r, prngReg c r)
    ∗ (StableHlo.held (c.tc : Thread nD τ) (Pipeline.ucRefs τ sig \ Pipeline.arrRefs spec0) (V4 m c) ∗ emp) ∗ ∃ W, owes (c : Thread nD τ) (0 : CellTallies nD τ sig Unit) W)
  rw [StableHlo.held_sub_split (c.tc : Thread nD τ) sub0 (V4 m c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO

/-- The first launch leaves what the host goes on from. -/
theorem post0 (c : Dev nD) : (R0 m).post c ⊢ iprop(StableHlo.held (c : Thread nD τ) (Pipeline.ucRefs τ sig) (V5 m (outs m) c) ∗ E 1 c) := by
  rw [← StableHlo.held_congr (c : Thread nD τ) (fun b hb => after0 m c b hb)]
  unfold R0 E
  exact Pipeline.RegionSeg.ofHeldIn_post sub0 c

/-- The second launch starts from what the host left. -/
theorem pre1 (c : Dev nD) : iprop(StableHlo.held (c : Thread nD τ) (Pipeline.ucRefs τ sig) (V10 m (outs m) c) ∗ E 1 c) ⊢ (R1 m).pre c := by
  rw [V10_outs]
  show _ ⊢ iprop(StableHlo.held (c.tc : Thread nD τ) (Pipeline.arrRefs spec1) (VC m c) ∗ (∃ r, prngReg c r)
    ∗ (StableHlo.held (c.tc : Thread nD τ) (Pipeline.ucRefs τ sig \ Pipeline.arrRefs spec1) (VC m c) ∗ emp) ∗ ∃ W, owes (c : Thread nD τ) (0 : CellTallies nD τ sig Unit) W)
  rw [StableHlo.held_sub_split (c.tc : Thread nD τ) sub1 (VC m c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO

set_option maxHeartbeats 4000000 in
/-- The second launch leaves what the host goes on from. -/
theorem post1 (c : Dev nD) : (R1 m).post c ⊢ iprop(StableHlo.held (c : Thread nD τ) (Pipeline.ucRefs τ sig) (V11 m (outs m) c) ∗ E 2 c) := by
  rw [← StableHlo.held_congr (c : Thread nD τ) (fun b hb => after1 m c b hb)]
  unfold R1 E
  exact BIBase.Entails.trans (Pipeline.RegionSeg.ofHeldIn_post sub1 c) (BI.Entails.refl _)

/-- At the end a core owes nothing. -/
theorem restOwes (c : Dev nD) : (E 2 c : sProp 𝕄) ⊢ iprop(∃ W, owes (c : Thread nD τ) (0 : CellTallies nD τ sig Unit) W) := by
  unfold E
  iintro ⟨H, -⟩
  iexact H

/-- What the launch deals a core covers what rides beside its buffers. -/
theorem start : iprop((bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ (emp : sProp 𝕄))) ∗ levAts L lv) ⊢ (|={Set.univ}=> bigSep Finset.univ (E 0) : sProp 𝕄) := by
  refine Pipeline.initEach L lv fun c => ?_
  unfold E
  iintro ⟨⟨-, Ho, -, Hp, -⟩, -⟩
  imodintro
  isplitl [Ho]
  · iexists ∅; iexact Ho
  isplitl [Hp]
  · iexists (ρ c); iexact Hp
  iempintro

/-- Nothing rides beside the pipelines' own launch state. -/
theorem deal : (ownU (initOf (Pipeline.cells (cfgs) cellOf_inj) (Pipeline.launchToks (cfgs) cellOf_inj)) : sProp 𝕄)
    ⊢ |={Set.univ}=> iprop(BI.own (EP (F := F) (initOf (Pipeline.cells (cfgs) cellOf_inj) (Pipeline.launchToks (cfgs) cellOf_inj))) ∗ bigSep Finset.univ fun _ : Dev nD => (iprop(emp) : sProp 𝕄)) := by
  iintro Hu
  imodintro
  isplitl [Hu]
  · iapply (show (ownU _ : sProp 𝕄) ⊢ BI.own (EP (F := F) (initOf (Pipeline.cells (cfgs) cellOf_inj) (Pipeline.launchToks (cfgs) cellOf_inj))) from .rfl)
    iexact Hu
  iapply (show (BI.emp : sProp 𝕄) ⊢ bigSep Finset.univ (fun _ : Dev nD => (BI.emp : sProp 𝕄)) from by rw [BI.bigSep_emp_const])
  iempintro

/-- Every buffer a core keeps holds what the host's last stretch leaves. -/
def Final (c : Dev nD) (s : MemSt nD τ sig (Elt F)) : Prop :=
  ∀ b : DevRef τ sig, b ∈ Pipeline.ucRefs τ sig → s.mem (c, b) = V12 m (outs m) c b

/-- The launch's buffers and what rides beside them, dealt to the cores. -/
theorem opening : iprop((bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (0 : Dev nD → CellTallies nD τ sig Unit) c ∗ prngReg c (ρ c) ∗ (emp : sProp 𝕄))) ∗ levAts L lv)
    ⊢ (|={Set.univ}=> bigSep Finset.univ (fun c : Dev nD => iprop(StableHlo.held (c : Thread nD τ) (Pipeline.ucRefs τ sig) (V0 m c) ∗ E 0 c)) : sProp 𝕄) := by
  have hsplit : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (0 : Dev nD → CellTallies nD τ sig Unit) c ∗ prngReg c (ρ c) ∗ (emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ (emp : sProp 𝕄))) : sProp 𝕄) := by
    rw [← bigSep_sep']
    exact bigSep_mono fun c _ => by
      rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod (start ρ) $$ [Hr Hla] with HE
  · isplitl [Hr]; · iexact Hr
    iexact Hla
  imodintro
  rw [bigSep_sep']
  isplitl [Hh]; · iexact Hh
  iexact HE

/-- The last stretch's buffers, read off the final memory. -/
theorem closing (c : Dev nD) (s : Phys nD τ sig (Elt F)) :
    iprop(StableHlo.held (c : Thread nD τ) (Pipeline.ucRefs τ sig) (V12 m (outs m) c) ∗ SI s) ⊢ (|={Set.univ}=> iprop(⌜Final m c s.mem⌝ ∗ SI s) : sProp 𝕄) := by
  unfold StableHlo.held
  iintro ⟨Hh, HSI⟩
  ihave Hr := (pointsTo_read_all (Pipeline.ucRefs τ sig) (fun b => ((c : Thread nD τ).1, b)) (V12 m (outs m) c) s) $$ [Hh HSI]
  · isplitl [Hh] <;> iassumption
  icases Hr with ⟨%h, HSI⟩
  imodintro
  isplitr
  · ipureintro; exact fun b hb => h b hb
  · iexact HSI

/-- Every weakly fair run of the whole kernel ends with every buffer at the last stretch's contents and every semaphore at zero. -/
theorem run_all : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (dats m) () cellOf_inj (EP (F := F)) defs₀ Variants.none L lv m ρ main
    (segs m (outs m) Variants.none L lv E () (dats m) (R0 m) (R1 m))
    (fun c Q => by
      rewrite [main_chain c, Pipeline.Seg.run_eq_chain,
        show (segs m (outs m) Variants.none L lv E () (dats m) (R0 m) (R1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0) (fun g h => if_neg h)
    (fun _ => iprop(emp)) _ (deal (F := F))
    (T₀ := fun c => iprop(StableHlo.held (c : Thread nD τ) (Pipeline.ucRefs τ sig) (V0 m c) ∗ E 0 c))
    (Tₙ := fun c => StableHlo.held (c : Thread nD τ) (Pipeline.ucRefs τ sig) (V12 m (outs m) c))
    (hch := fun c => ⟨.rfl, .rfl, .rfl, .rfl, pre0 m c, post0 m c, .rfl, .rfl, .rfl, .rfl, pre1 m c, post1 m c, BI.sep_mono (BI.Entails.refl _) (restOwes c)⟩)
    (hinit := opening m ρ) (QY := Final m)
    (hfin := fun c s' => closing m c s') (hQ := fun _ h hz => ⟨h, funext fun g => hz g (.inr (regions_no_unscoped g.2))⟩)

end Cert.KernelIdeal.Whole

end
-- ==== Proof.Transfer.lean ====
/- The printed kernel and its idealization are one program text: equal for every kind of float value. -/
module

public import proofs.«01_k».proof.Proof.Gen.Kernel
public import proofs.«01_k».proof.Proof.Gen.KernelIdeal

@[expose] public section

set_option maxRecDepth 100000

noncomputable section

namespace Cert.Transfer

open Idealize.ShloMosaic Idealize.SL.Sem

variable {F : FTy → Type} [FloatOps F]

attribute [local instance] Cert.Kernel.Gen.facts Cert.KernelIdeal.Gen.facts

/-- The host program is the same. -/
theorem main_eq (c : Dev Cert.Kernel.nD) : Cert.Kernel.main (F := F) c = Cert.KernelIdeal.main (F := F) c := by rfl

/-- The two kernel bodies are the same, -/
theorem bodies_eq : Cert.Kernel.defs₀ (F := F) = Cert.KernelIdeal.defs₀ (F := F) := by
  unfold Cert.Kernel.defs₀ Cert.KernelIdeal.defs₀
  refine congrArg Defs.onTc (funext fun ℓ => funext fun x => ?_)
  match ℓ, x with
  | 0, (t, s) => rfl
  | 1, (t, s) => rfl
  | ⟨_ + 2, h⟩, _ => exact absurd h (Nat.not_lt.2 (Nat.le_add_left _ _))

/-- and so is what a call to either launch runs. -/
theorem defs_eq : Cert.Kernel.defs (F := F) = Cert.KernelIdeal.defs (F := F) :=
  congrArg (Idealize.ShloMosaic.Pipeline.defs Cert.KernelIdeal.pcfgs) bodies_eq

end Cert.Transfer

end
-- ==== Proof.RefSteps.lean ====
/- The reference's loop: its 256 trips are one function, `step`, iterated from a start made of the arguments. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v88_9) = s.main_v88_9
  f_10 : V0 (Proc.devRef .tc main_v88_10) = s.main_v88_10
  f_11 : V0 (Proc.devRef .tc main_v88_11) = s.main_v88_11
  f_0 : V0 (Proc.devRef .tc main_v88_0) = s.main_v88_0
  f_1 : V0 (Proc.devRef .tc main_v88_1) = s.main_v88_1
  f_2 : V0 (Proc.devRef .tc main_v88_2) = s.main_v88_2
  f_3 : V0 (Proc.devRef .tc main_v88_3) = s.main_v88_3
  f_6 : V0 (Proc.devRef .tc main_v88_6) = s.main_v88_6
  f_7 : V0 (Proc.devRef .tc main_v88_7) = s.main_v88_7
  n_8 : V0 (Proc.devRef .tc main_v88_8) = constantI S_ 32 (BitVec.ofNat 32 j)
  k_4 : V0 (Proc.devRef .tc main_v88_4) = Cert.ReferenceIdeal.Step.K_main_v49 (F := F)
  k_5 : V0 (Proc.devRef .tc main_v88_5) = Cert.ReferenceIdeal.Step.K_main_v83 (F := F)

variable {V0 s j}

/-- The stretch's values, each as the trip's own, by rewriting what the valuation holds. -/
theorem step_9 (h : Holds V0 s j) : step_main_v88_9 V0 = (step j s).main_v88_9 := by
  unfold step_main_v88_9 res_main_while0b_v148 res_main_while0b_v141 res_main_while0b_v96
  simp only [h.f_9, h.f_10, h.f_0, h.f_1, h.f_2, h.f_3, h.f_6, h.f_7, h.n_8, h.k_4, h.k_5]
  rfl
/-- The cell state a trip leaves. -/
theorem step_10 (h : Holds V0 s j) : step_main_v88_10 V0 = (step j s).main_v88_10 := by
  unfold step_main_v88_10 res_main_while0b_v141 res_main_while0b_v96
  simp only [h.f_9, h.f_10, h.f_0, h.f_1, h.f_2, h.f_3, h.n_8, h.k_4, h.k_5]
  rfl
/-- The stack a trip leaves. -/
theorem step_11 (h : Holds V0 s j) : step_main_v88_11 V0 = (step j s).main_v88_11 := by
  unfold step_main_v88_11 res_main_while0b_v148 res_main_while0b_v141 res_main_while0b_v96
  simp only [h.f_9, h.f_10, h.f_11, h.f_0, h.f_1, h.f_2, h.f_3, h.f_6, h.f_7, h.n_8, h.k_4, h.k_5]
  rfl
/-- The next trip's number. -/
theorem step_8 (h : Holds V0 s j) : step_main_v88_8 V0 = constantI S_ 32 (BitVec.ofNat 32 (j + 1)) := by
  unfold step_main_v88_8
  rw [h.n_8]
  funext i
  show BitVec.ofNat 32 j + 1#32 = BitVec.ofNat 32 (j + 1)
  simp only [BitVec.ofNat_add]

set_option maxRecDepth 8192 in
/-- The stack with rows first, as the operations after the loop leave it. -/
theorem out_main_v89_holds (h : Holds V0 s j) : out_main_v89 V0 = Cert.ReferenceIdeal.Step.R_main_v89 s := by
  unfold out_main_v89 Cert.ReferenceIdeal.Step.R_main_v89
  rw [h.f_11]

/-- One trip keeps the valuation holding: `step` of the state, the same set-up values, the next number. -/
theorem holds_step (h : Holds V0 s j) : Holds (STEP V0) (step j s) (j + 1) where
  f_9 := (STEP_main_v88_9 V0).trans (step_9 h)
  f_10 := (STEP_main_v88_10 V0).trans (step_10 h)
  f_11 := (STEP_main_v88_11 V0).trans (step_11 h)
  n_8 := (STEP_main_v88_8 V0).trans (step_8 h)
  k_4 := (STEP_main_v88_4 V0).trans h.k_4
  k_5 := (STEP_main_v88_5 V0).trans h.k_5
  f_0 := (STEP_main_v88_0 V0).trans h.f_0
  f_1 := (STEP_main_v88_1 V0).trans h.f_1
  f_2 := (STEP_main_v88_2 V0).trans h.f_2
  f_3 := (STEP_main_v88_3 V0).trans h.f_3
  f_6 := (STEP_main_v88_6 V0).trans h.f_6
  f_7 := (STEP_main_v88_7 V0).trans h.f_7

/-- The state the first trip starts from, of the memory the run starts from. -/
abbrev initState (m : (ℓ : Loc nD τ sig) → Buf (Elt F) ℓ) (c : Dev nD) : State F :=
  init (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))

variable (m : (ℓ : Loc nD τ sig) → Buf (Elt F) ℓ) (c : Dev nD)

set_option maxRecDepth 65536 in
set_option maxHeartbeats 20000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The reference's run as `step` iterated: it ends with each result at its field of state number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v89) = Cert.ReferenceIdeal.Step.R_main_v89 (it c 256)
      ∧ r.2.mem ((c.tc : Thread nD τ).loc main_v88_9) = (it c 256).main_v88_9
      ∧ r.2.mem ((c.tc : Thread nD τ).loc main_v88_10) = (it c 256).main_v88_10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 256
    ⟨(h c).1.trans (out_main_v89_holds hk), (h c).2.1.trans hk.f_9, (h c).2.2.1.trans hk.f_10, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.StepRun

end
-- ==== Proof.Frames.lean ====
/- Each program ends without fault, its arguments as they were and every semaphore at zero. -/
module

public import proofs.«01_k».proof.Defs
public import proofs.«01_k».proof.Proof.Whole
public import proofs.«01_k».proof.Proof.Transfer
public import proofs.«01_k».proof.Proof.RefSteps

@[expose] public section

set_option maxRecDepth 16384

noncomputable section

namespace Cert.Frames

open Idealize.ShloMosaic Idealize.ShloMosaic.TcCoe Idealize.SL.Sem

attribute [local instance] Cert.Kernel.Gen.facts Cert.KernelIdeal.Gen.facts Cert.ReferenceIdeal.Gen.facts

section Kernel

open Cert.KernelIdeal Cert.KernelIdeal.Gen

variable {F : FTy → Type} [FloatOps F]

/-- A buffer of the host's is one the cores keep. -/
theorem mem_uc {r : Ref sig .tc} (h : r.isScoped = false) : (Proc.devRef .tc r : DevRef τ sig) ∈ Pipeline.ucRefs τ sig :=
  Finset.mem_filter.mpr ⟨StableHlo.devRef_mem_tcRefs r, by simpa using h⟩

/-- The kernel, over any float values. -/
theorem kernel (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc rfl)).trans (V12_main_arg0 m _ c), (h.1 c _ (mem_uc rfl)).trans (V12_main_arg1 m _ c),
      (h.1 c _ (mem_uc rfl)).trans (V12_main_arg2 m _ c), (h.1 c _ (mem_uc rfl)).trans (V12_main_arg3 m _ c),
      (h.1 c _ (mem_uc rfl)).trans (V12_main_arg4 m _ c), (h.1 c _ (mem_uc rfl)).trans (V12_main_arg5 m _ c),
      (h.1 c _ (mem_uc rfl)).trans (V12_main_arg6 m _ c)⟩, h.2⟩) (Whole.run_all m ρ)

end Kernel

/-- The printed kernel on words. -/
theorem kernel_words : Cert.quiescent_Kernel := by
  intro m g _
  have e : Cert.Kernel.main (F := Bits) = Cert.KernelIdeal.main (F := Bits) := funext Transfer.main_eq
  rw [Transfer.defs_eq, e]
  exact kernel (F := Bits) m g

/-- The kernel over the extended reals. -/
theorem kernel_reals : Cert.quiescent_KernelIdeal := fun m g _ => kernel (F := Ideal) m g

/-- The reference over the extended reals; it has no semaphore. -/
theorem reference_reals : Cert.quiescent_ReferenceIdeal := fun m g _ =>
  (θ_run Cert.ReferenceIdeal.defs _ _).mono (fun _ h =>
    ⟨fun c => (h c).2.2.2, funext fun g => nomatch g.2⟩) (Cert.ReferenceIdeal.Value.run (F := Ideal) m g)

end Cert.Frames

end
-- ==== Proof.Ladder.lean ====
/- The quantiser: the kernel's five-level ladder of comparisons counts the thresholds that are at most its argument. -/
module

public import Idealize.ShloMosaic.PureOps.Ideal.Laws
public import Idealize.ShloMosaic.Lib.IdealHost
public import Mathlib.Tactic.IntervalCases

@[expose] public section

noncomputable section

namespace Cert.Ladder

open Idealize.ShloMosaic

/-! ## The thresholds -/

/-- The thresholds of the sigmoid ladder, as words. -/
def sigWords : Fin 31 → BitVec 32 :=
  ![0xC05FB80B#32, 0xC031635B#32, 0xC0156C5A#32, 0xC000F20F#32, 0xBFE0FFB0#32, 0xBFC539D4#32, 0xBFACC7D7#32, 0xBF96E524#32,
    0xBF82CD24#32, 0xBF603B1A#32, 0xBF3CE825#32, 0xBF1B5FE5#32, 0xBEF5BB82#32, 0xBEB6C375#32, 0xBE72A92A#32, 0xBDF1A30C#32,
    0xA6000000#32, 0x3DF1A30C#32, 0x3E72A92A#32, 0x3EB6C375#32, 0x3EF5BB82#32, 0x3F1B5FE5#32, 0x3F3CE825#32, 0x3F603B1A#32,
    0x3F82CD24#32, 0x3F96E524#32, 0x3FACC7D7#32, 0x3FC539D4#32, 0x3FE0FFB0#32, 0x4000F20F#32, 0x40156C5A#32]

/-- The thresholds of the tanh ladder, as words. -/
def tanhWords : Fin 31 → BitVec 32 :=
  ![0xBFDFD8CF#32, 0xBFB1841F#32, 0xBF957CBC#32, 0xBF810271#32, 0xBF60FFB0#32, 0xBF451910#32, 0xBF2CC7D7#32, 0xBF16C460#32,
    0xBF028B9D#32, 0xBEDFB80B#32, 0xBEBC6517#32, 0xBE9A9B4F#32, 0xBE74B565#32, 0xBE364067#32, 0xBDF1A30C#32, 0xBD71A30C#32,
    0xA6000000#32, 0x3D71A30C#32, 0x3DF1A30C#32, 0x3E364067#32, 0x3E74B565#32, 0x3E9A9B4F#32, 0x3EBC6517#32, 0x3EDFB80B#32,
    0x3F028B9D#32, 0x3F16C460#32, 0x3F2CC7D7#32, 0x3F451910#32, 0x3F60FFB0#32, 0x3F810271#32, 0x3F957CBC#32]

/-- The reals a list of words denotes. -/
def thr (w : Fin 31 → BitVec 32) (k : Fin 31) : EReal := Ideal.ofBits .f32 (w k)

/-- A word's magnitude in units of the least positive one, with its sign. -/
def units (b : BitVec 32) : ℤ :=
  (if b.extractLsb' 31 1 == 1#1 then -1 else 1) * (2 ^ 23 + (b.extractLsb' 0 23).toNat : ℕ) * 2 ^ ((b.extractLsb' 23 8).toNat - 1)

/-- A normal word is its count of units. -/
theorem ofBits_units (b : BitVec 32) (h0 : (b.extractLsb' 23 8).toNat ≠ 0) (h1 : (b.extractLsb' 23 8).toNat ≠ 255) :
    Ideal.ofBits .f32 b = (((units b : ℝ) * (2 : ℝ) ^ (-149 : ℤ) : ℝ) : EReal) := by
  have e : Ideal.ofBits .f32 b = Ideal.ieee 8 23 b := rfl
  rw [e]
  unfold Ideal.ieee
  rw [if_neg (by simpa using h1), if_neg h0]
  congr 1
  have hp : (2 : ℝ) ^ (((b.extractLsb' 23 8).toNat : ℤ) - (2 ^ (8 - 1) - 1) - (23 : ℕ)) = 2 ^ ((b.extractLsb' 23 8).toNat - 1) * (2 : ℝ) ^ (-149 : ℤ) := by
    rw [← zpow_natCast, ← zpow_add₀ (by norm_num)]
    congr 1
    omega
  rw [hp]
  unfold units
  push_cast
  split <;> ring

/-- A list of normal words in increasing order denotes reals in increasing order. -/
theorem thr_mono (w : Fin 31 → BitVec 32) (h0 : ∀ k, ((w k).extractLsb' 23 8).toNat ≠ 0) (h1 : ∀ k, ((w k).extractLsb' 23 8).toNat ≠ 255)
    (h : ∀ k l, k ≤ l → units (w k) ≤ units (w l)) : Monotone (thr w) := fun k l hkl => by
  unfold thr
  rw [ofBits_units _ (h0 k) (h1 k), ofBits_units _ (h0 l) (h1 l)]
  exact EReal.coe_le_coe_iff.mpr (mul_le_mul_of_nonneg_right (by exact_mod_cast h k l hkl) (by positivity))

/-- The sigmoid's thresholds rise. -/
theorem sig_mono : Monotone (thr sigWords) := thr_mono _ (by decide +kernel) (by decide +kernel) (by decide +kernel)
/-- The tangent's thresholds rise. -/
theorem tanh_mono : Monotone (thr tanhWords) := thr_mono _ (by decide +kernel) (by decide +kernel) (by decide +kernel)

/-! ## The ladder -/

/-- Sixteen, eight, four, two and one, added where the bits say so. -/
def weigh (b16 b8 b4 b2 b1 : BitVec 1) : EReal :=
  let v16 := Scalar.select b16 (Ideal.ofBits .f32 0x41800000#32) (Ideal.ofBits .f32 0x00000000#32)
  let v8 := Scalar.select b8 (v16 + Ideal.ofBits .f32 0x41000000#32) v16
  let v4 := Scalar.select b4 (v8 + Ideal.ofBits .f32 0x40800000#32) v8
  let v2 := Scalar.select b2 (v4 + Ideal.ofBits .f32 0x40000000#32) v4
  Scalar.select b1 (v2 + Ideal.ofBits .f32 0x3F800000#32) v2

variable (t : Fin 31 → EReal) (x : EReal)

/-- Each level compares with the threshold the levels above it chose. -/
def bit16 : BitVec 1 := Ideal.cmp .oge x (t 15)
/-- The second comparison, at the threshold the first selects. -/
def bit8 (b16 : BitVec 1) : BitVec 1 := Ideal.cmp .oge x (Scalar.select b16 (t 23) (t 7))
/-- The third. -/
def bit4 (b16 b8 : BitVec 1) : BitVec 1 :=
  Ideal.cmp .oge x (Scalar.select b16 (Scalar.select b8 (t 27) (t 19)) (Scalar.select b8 (t 11) (t 3)))
/-- The fourth. -/
def bit2 (b16 b8 b4 : BitVec 1) : BitVec 1 :=
  Ideal.cmp .oge x (Scalar.select b16
    (Scalar.select b8 (Scalar.select b4 (t 29) (t 25)) (Scalar.select b4 (t 21) (t 17)))
    (Scalar.select b8 (Scalar.select b4 (t 13) (t 9)) (Scalar.select b4 (t 5) (t 1))))
/-- The fifth. -/
def bit1 (b16 b8 b4 b2 : BitVec 1) : BitVec 1 :=
  Ideal.cmp .oge x (Scalar.select b16
    (Scalar.select b8
      (Scalar.select b4 (Scalar.select b2 (t 30) (t 28)) (Scalar.select b2 (t 26) (t 24)))
      (Scalar.select b4 (Scalar.select b2 (t 22) (t 20)) (Scalar.select b2 (t 18) (t 16))))
    (Scalar.select b8
      (Scalar.select b4 (Scalar.select b2 (t 14) (t 12)) (Scalar.select b2 (t 10) (t 8)))
      (Scalar.select b4 (Scalar.select b2 (t 6) (t 4)) (Scalar.select b2 (t 2) (t 0)))))

/-- The ladder's count. -/
def ladder : EReal :=
  let b16 := bit16 t x
  let b8 := bit8 t x b16
  let b4 := bit4 t x b16 b8
  let b2 := bit2 t x b16 b8 b4
  weigh b16 b8 b4 b2 (bit1 t x b16 b8 b4 b2)

/-- The plain count: a one for every threshold that is at most the argument. -/
def count : EReal := ∑ k : Fin 31, (((Ideal.cmp .oge x (t k)).toNat : ℝ) : EReal)

/-! ## The two counts agree -/

/-- The word of two. -/
theorem ofBits_two : Ideal.ofBits .f32 0x40000000#32 = ((2 : ℝ) : EReal) := by
  simp [Ideal.ofBits, Ideal.ieee, -EReal.coe_mul]; norm_num
/-- The word of four. -/
theorem ofBits_four : Ideal.ofBits .f32 0x40800000#32 = ((4 : ℝ) : EReal) := by
  simp [Ideal.ofBits, Ideal.ieee, -EReal.coe_mul]; norm_num
/-- The word of eight. -/
theorem ofBits_eight : Ideal.ofBits .f32 0x41000000#32 = ((8 : ℝ) : EReal) := by
  simp [Ideal.ofBits, Ideal.ieee, -EReal.coe_mul]; norm_num
/-- The word of sixteen. -/
theorem ofBits_sixteen : Ideal.ofBits .f32 0x41800000#32 = ((16 : ℝ) : EReal) := by
  simp [Ideal.ofBits, Ideal.ieee, -EReal.coe_mul]; norm_num

/-- A part added where a bit says so is the part times the bit. -/
theorem select_add (b : BitVec 1) (r c : ℝ) :
    Scalar.select b ((r : EReal) + (c : EReal)) (r : EReal) = ((r + c * b.toNat : ℝ) : EReal) := by
  have two : ∀ b : BitVec 1, b = 0#1 ∨ b = 1#1 := by decide
  rcases two b with rfl | rfl
  · rw [show Scalar.select 0#1 ((r : EReal) + (c : EReal)) (r : EReal) = (r : EReal) from if_neg (by decide)]; simp
  · rw [show Scalar.select 1#1 ((r : EReal) + (c : EReal)) (r : EReal) = (r : EReal) + (c : EReal) from if_pos rfl, ← EReal.coe_add]; simp

/-- The weighted bits are the number they spell. -/
theorem weigh_eq (b16 b8 b4 b2 b1 : BitVec 1) :
    weigh b16 b8 b4 b2 b1 = (((16 * b16.toNat + 8 * b8.toNat + 4 * b4.toNat + 2 * b2.toNat + b1.toNat : ℕ) : ℝ) : EReal) := by
  have first : Scalar.select b16 ((16 : ℝ) : EReal) ((0 : ℝ) : EReal) = ((0 + 16 * b16.toNat : ℝ) : EReal) := by
    rw [← select_add, ← EReal.coe_add, zero_add]
  unfold weigh
  rw [ofBits_two, ofBits_four, ofBits_eight, ofBits_sixteen, Ideal.ofBits_one_f32, Ideal.ofBits_zero_f32]
  rw [← EReal.coe_one, ← EReal.coe_zero]
  simp only [first, select_add]
  refine congrArg (fun r : ℝ => (r : EReal)) ?_
  push_cast
  ring

/-- Increasing thresholds at most `x` are a prefix of the list. -/
theorem prefix_le (ht : Monotone t) : ∃ n ≤ 31, ∀ k : Fin 31, t k ≤ x ↔ k.val < n := by
  classical
  by_cases h : ∃ n : ℕ, ∃ hn : n < 31, ¬ t ⟨n, hn⟩ ≤ x
  · refine ⟨Nat.find h, (Nat.find_spec h).1.le, fun k => ⟨fun hk => ?_, fun hk => ?_⟩⟩
    · by_contra hlt
      obtain ⟨hn, hs⟩ := Nat.find_spec h
      exact hs ((ht (show (⟨Nat.find h, hn⟩ : Fin 31) ≤ k from Nat.le_of_not_lt hlt)).trans hk)
    · by_contra hs
      exact Nat.find_min h hk ⟨k.isLt, hs⟩
  · push Not at h
    exact ⟨31, le_refl _, fun k => ⟨fun _ => k.isLt, fun _ => h k.val k.isLt⟩⟩

/-- A comparison with a chosen threshold is the chosen comparison. -/
theorem cmp_select (b : BitVec 1) (u v : EReal) :
    Ideal.cmp .oge x (Scalar.select b u v) = Scalar.select b (Ideal.cmp .oge x u) (Ideal.cmp .oge x v) := by
  unfold Scalar.select; split <;> rfl

/-- The bits a prefix of length `n` gives spell `n`. -/
theorem spell : ∀ n ≤ 31,
    let g : ℕ → BitVec 1 := fun k => BitVec.ofBool (decide (k < n))
    let b16 := g 15
    let b8 := Scalar.select b16 (g 23) (g 7)
    let b4 := Scalar.select b16 (Scalar.select b8 (g 27) (g 19)) (Scalar.select b8 (g 11) (g 3))
    let b2 := Scalar.select b16
      (Scalar.select b8 (Scalar.select b4 (g 29) (g 25)) (Scalar.select b4 (g 21) (g 17)))
      (Scalar.select b8 (Scalar.select b4 (g 13) (g 9)) (Scalar.select b4 (g 5) (g 1)))
    let b1 := Scalar.select b16
      (Scalar.select b8
        (Scalar.select b4 (Scalar.select b2 (g 30) (g 28)) (Scalar.select b2 (g 26) (g 24)))
        (Scalar.select b4 (Scalar.select b2 (g 22) (g 20)) (Scalar.select b2 (g 18) (g 16))))
      (Scalar.select b8
        (Scalar.select b4 (Scalar.select b2 (g 14) (g 12)) (Scalar.select b2 (g 10) (g 8)))
        (Scalar.select b4 (Scalar.select b2 (g 6) (g 4)) (Scalar.select b2 (g 2) (g 0))))
    16 * b16.toNat + 8 * b8.toNat + 4 * b4.toNat + 2 * b2.toNat + b1.toNat = n := by decide +kernel

/-- Of 31 places, `n` lie below `n`. -/
theorem count_nat : ∀ n ≤ 31, ∑ k : Fin 31, (BitVec.ofBool (decide (k.val < n))).toNat = n := by decide +kernel

/-- A sum of naturals is the same read as extended reals. -/
theorem coe_sum {ι : Type} (s : Finset ι) (f : ι → ℕ) : ∑ k ∈ s, ((f k : ℝ) : EReal) = (((∑ k ∈ s, f k : ℕ) : ℝ) : EReal) := by
  classical
  induction s using Finset.induction with
  | empty => simp
  | insert a s ha ih => rw [Finset.sum_insert ha, Finset.sum_insert ha, ih, ← EReal.coe_add, ← Nat.cast_add]

/-- The ladder over increasing thresholds is the plain count. -/
theorem ladder_eq_count (ht : Monotone t) : ladder t x = count t x := by
  obtain ⟨n, hn, h⟩ := prefix_le t x ht
  have hc : ∀ k : Fin 31, Ideal.cmp .oge x (t k) = BitVec.ofBool (decide (k.val < n)) := fun k => by
    unfold Ideal.cmp; simp only [h k]
  have hr : count t x = ((n : ℝ) : EReal) := by
    unfold count
    simp only [hc]
    rw [coe_sum, count_nat n hn]
  rw [hr]
  unfold ladder
  simp only [weigh_eq]
  refine congrArg (fun r : ℕ => ((r : ℝ) : EReal)) ?_
  unfold bit16 bit8 bit4 bit2 bit1
  simp only [cmp_select, hc]
  exact spell n hn

end Cert.Ladder

end
-- ==== Proof.CellGate.lean ====
/- The kernel's four gates at one index: the ladder's count of the gate's pre-activation. -/
module

public import proofs.«01_k».proof.Proof.CellValue
public import proofs.«01_k».proof.Proof.Ladder

@[expose] public section

noncomputable section

namespace Cert.KernelIdeal.Gate

open Idealize.ShloMosaic Cert.KernelIdeal Cert.KernelIdeal.Gen Cert.KernelIdeal.Cell

variable (x0 : Vec Ideal S1x256x128 .f32) (x1 : Vec Ideal S128x8192 .bf16) (x2 : Vec Ideal S504x8192 .bf16) (x3 : Vec Ideal S1x8192 .f32)
  (h : Vec Ideal S256x504 .f32) (i : S256x2048.Idx)

/-- The scale of the sigmoid gates, and of the candidate. -/
abbrev sigScale : EReal := Ideal.ofBits .f32 0x3CF0F0F1#32
/-- The step of the candidate. -/
abbrev tanhScale : EReal := Ideal.ofBits .f32 0x3D70F0F1#32

/-- The input gate counts the sigmoid thresholds its pre-activation reaches. -/
theorem gateI_apply : gateI x0 x1 x2 x3 h i = Ladder.count (Ladder.thr Ladder.sigWords) (preI x0 x1 x2 x3 h i) := by
  rw [← Ladder.ladder_eq_count _ _ Ladder.sig_mono]
  rfl

/-- So does the forget gate. -/
theorem gateF_apply : gateF x0 x1 x2 x3 h i = Ladder.count (Ladder.thr Ladder.sigWords) (preF x0 x1 x2 x3 h i) := by
  rw [← Ladder.ladder_eq_count _ _ Ladder.sig_mono]
  rfl

/-- The candidate counts the tanh thresholds. -/
theorem gateG_apply : gateG x0 x1 x2 x3 h i = Ladder.count (Ladder.thr Ladder.tanhWords) (preG x0 x1 x2 x3 h i) := by
  rw [← Ladder.ladder_eq_count _ _ Ladder.tanh_mono]
  rfl

/-- The new cell state at an index. -/
theorem cNew_apply (c : Vec Ideal S256x2048 .f32) :
    cNew x0 x1 x2 x3 h c i =
      Ladder.count (Ladder.thr Ladder.sigWords) (preF x0 x1 x2 x3 h i) * sigScale * c i
        + Ladder.count (Ladder.thr Ladder.sigWords) (preI x0 x1 x2 x3 h i) * sigScale
          * (Ladder.count (Ladder.thr Ladder.tanhWords) (preG x0 x1 x2 x3 h i) * tanhScale - Ideal.ofBits .f32 0x3F800000#32) := by
  rw [← gateI_apply, ← gateF_apply, ← gateG_apply]
  rfl

/-- The output before the projection. -/
def out (c : Vec Ideal S256x2048 .f32) : FVec Ideal S256x2048 .bf16 :=
  k1_pay45 (gateI x0 x1 x2 x3 h) (gateF x0 x1 x2 x3 h) (gateG x0 x1 x2 x3 h) (bitO4 x0 x1 x2 x3 h) (bitO2 x0 x1 x2 x3 h)
    (bitO1 x0 x1 x2 x3 h) (highO x0 x1 x2 x3 h) (k1_pay42 (F := Ideal)) c

/-- The output at an index: the output gate times the tanh of the new cell state. -/
theorem out_apply (c : Vec Ideal S256x2048 .f32) :
    out x0 x1 x2 x3 h c i =
      Ladder.count (Ladder.thr Ladder.sigWords) (preO x0 x1 x2 x3 h i) * sigScale * Ideal.tanh (cNew x0 x1 x2 x3 h c i) := by
  rw [← Ladder.ladder_eq_count _ _ Ladder.sig_mono]
  rfl

end Cert.KernelIdeal.Gate

end
-- ==== Proof.Recurrence.lean ====
/- The recurrence both programs compute, on extended reals: a cell whose gates count thresholds, and its run over the sequence. -/
module

public import proofs.«01_k».proof.Proof.Ladder

@[expose] public section

noncomputable section

namespace Cert.Recurrence

open Idealize.ShloMosaic

/-- What the cell is built from: the inputs by step, row and feature; the input and recurrent weights and the bias, of the
    four gates side by side; the projection and its bias. -/
structure Net where
  x : ℕ → Fin 256 → Fin 128 → EReal
  w : Fin 128 → Fin 8064 → EReal
  u : Fin 504 → Fin 8064 → EReal
  b : Fin 8064 → EReal
  p : Fin 504 → Fin 2016 → EReal
  q : Fin 504 → EReal

/-- The hidden and the cell state. -/
structure St where
  h : Fin 256 → Fin 504 → EReal
  c : Fin 256 → Fin 2016 → EReal

/-- The column of gate `g` that cell `j` reads. -/
def col (g : Fin 4) (j : Fin 2016) : Fin 8064 := ⟨2016 * g.val + j.val, by omega⟩

variable (n : Net) (t : ℕ) (s : St)

/-- A gate before it is quantised: inputs times weights plus hidden state times weights plus bias. -/
def pre (r : Fin 256) (j : Fin 8064) : EReal :=
  (∑ k : Fin 128, n.x t r k * n.w k j) + (∑ k : Fin 504, s.h r k * n.u k j) + n.b j

/-- A sigmoid gate: the count of thresholds reached, scaled. -/
def quant (y : EReal) : EReal := Ladder.count (Ladder.thr Ladder.sigWords) y * Ideal.ofBits .f32 0x3CF0F0F1#32

/-- The candidate: the count of its own thresholds, scaled and shifted down by one. -/
def cand (y : EReal) : EReal :=
  Ladder.count (Ladder.thr Ladder.tanhWords) y * Ideal.ofBits .f32 0x3D70F0F1#32 - Ideal.ofBits .f32 0x3F800000#32

/-- The new cell state. -/
def newC (r : Fin 256) (j : Fin 2016) : EReal :=
  quant (pre n t s r (col 1 j)) * s.c r j + quant (pre n t s r (col 0 j)) * cand (pre n t s r (col 2 j))

/-- The output before the projection. -/
def out (r : Fin 256) (j : Fin 2016) : EReal := quant (pre n t s r (col 3 j)) * Ideal.tanh (newC n t s r j)

/-- The new hidden state: the output projected, plus the projection's bias. -/
def newH (r : Fin 256) (k : Fin 504) : EReal := (∑ j : Fin 2016, out n t s r j * n.p k j) + n.q k

/-- One step. -/
def next : St := ⟨newH n t s, newC n t s⟩

/-- The state after the first `t` steps, from zeros. -/
def run (n : Net) : ℕ → St
  | 0 => ⟨fun _ _ => 0, fun _ _ => 0⟩
  | t + 1 => next n t (run n t)

end Cert.Recurrence

end
-- ==== Proof.CellStep.lean ====
/- One grid point of the recurrent kernel, at an index: it is one step of the recurrence. -/
module

public import proofs.«01_k».proof.Proof.CellGate
public import proofs.«01_k».proof.Proof.Recurrence
public import Idealize.ShloMosaic.Lib.Pointwise

@[expose] public section

noncomputable section

namespace Cert.KernelIdeal.CellStep

open Idealize.ShloMosaic Cert.KernelIdeal Cert.KernelIdeal.Gen Cert.KernelIdeal.Cell Cert.KernelIdeal.Gate Cert.Recurrence

variable (x0 : Vec Ideal S1x256x128 .f32) (x1 : Vec Ideal S128x8192 .bf16) (x2 : Vec Ideal S504x8192 .bf16) (x3 : Vec Ideal S1x8192 .f32)
  (x4 : Vec Ideal S2048x504 .bf16) (x5 : Vec Ideal S1x504 .f32)
  (h : Vec Ideal S256x504 .f32) (c : Vec Ideal S256x2048 .f32)

/-- A gate before it is quantised, read off the arrays at a padded column. -/
def preAt (r : Fin 256) (l : Fin 8192) : EReal :=
  (∑ k : Fin 128, x0 (ix3 (0 : Fin 1) r k) * x1 (ix2 k l)) + (∑ k : Fin 504, h (ix2 r k) * x2 (ix2 k l)) + x3 (ix2 (0 : Fin 1) l)

/-- The padded column of gate `g` that cell `j` reads. -/
def pad (g : Fin 4) (j : Fin 2048) : Fin 8192 := ⟨2048 * g.val + j.val, by omega⟩

/-- A cell among the padded ones. -/
def wide (j : Fin 2016) : Fin 2048 := ⟨j.val, by omega⟩

/-- The input gate's pre-activation. -/
theorem preI_apply (r : Fin 256) (j : Fin 2048) : preI x0 x1 x2 x3 h (ix2 r j) = preAt x0 x1 x2 x3 h r (pad 0 j) := by
  rw [show pad 0 j = ⟨j.val, by omega⟩ from Fin.ext (by simp [pad])]
  pointwise [preI, k1_pay9, k1_pay7, k1_pay8, preAt, colsX, colsH, colsB, View.ld]

/-- The forget gate's. -/
theorem preF_apply (r : Fin 256) (j : Fin 2048) : preF x0 x1 x2 x3 h (ix2 r j) = preAt x0 x1 x2 x3 h r (pad 1 j) := by
  pointwise [preF, k1_pay19, k1_pay7, k1_pay8, preAt, colsX, colsH, colsB, View.ld]
  rfl

/-- The candidate's. -/
theorem preG_apply (r : Fin 256) (j : Fin 2048) : preG x0 x1 x2 x3 h (ix2 r j) = preAt x0 x1 x2 x3 h r (pad 2 j) := by
  pointwise [preG, dotG, k1_pay26, k1_pay27, k1_pay7, k1_pay8, preAt, colsX, colsH, colsB, View.ld]
  rfl

/-- The output gate's. -/
theorem preO_apply (r : Fin 256) (j : Fin 2048) : preO x0 x1 x2 x3 h (ix2 r j) = preAt x0 x1 x2 x3 h r (pad 3 j) := by
  pointwise [preO, k1_pay34, k1_pay7, k1_pay8, preAt, colsX, colsH, colsB, View.ld]
  rfl

/-- The new hidden state is the whole output projected: the two halves of the sum are one sum. -/
theorem hNew_apply (r : Fin 256) (k : Fin 504) :
    hNew x0 x1 x2 x3 x4 x5 h c (ix2 r k) = (∑ j : Fin 2048, Gate.out x0 x1 x2 x3 h c (ix2 r j) * x4 (ix2 j k)) + x5 (ix2 (0 : Fin 1) k) := by
  rw [Fin.sum_univ_two_halves 1024 1024 rfl]
  pointwise [hNew, projLo, outHi, k1_pay1, k1_pay46, k1_pay47]
  rfl

/-- The arrays a grid point reads are the recurrence's: the real columns hold its weights, and the projection's padding is
    zero. -/
structure Fits (n : Net) (t : ℕ) : Prop where
  x : ∀ r k, x0 (ix3 (0 : Fin 1) r k) = n.x t r k
  w : ∀ k g j, x1 (ix2 k (pad g (wide j))) = n.w k (col g j)
  u : ∀ k g j, x2 (ix2 k (pad g (wide j))) = n.u k (col g j)
  b : ∀ g j, x3 (ix2 (0 : Fin 1) (pad g (wide j))) = n.b (col g j)
  p : ∀ k j, x4 (ix2 (wide j) k) = n.p k j
  zero : ∀ (k : Fin 504) (j : Fin 2048), 2016 ≤ j.val → x4 (ix2 j k) = 0
  q : ∀ k, x5 (ix2 (0 : Fin 1) k) = n.q k

/-- The kernel's state holds the recurrence's. -/
structure Holds (s : St) : Prop where
  h : ∀ r k, h (ix2 r k) = s.h r k
  c : ∀ r j, c (ix2 r (wide j)) = s.c r j

variable {x0 x1 x2 x3 x4 x5 h c} {n : Net} {t : ℕ} {s : St}

/-- A real column's pre-activation is the recurrence's. -/
theorem preAt_eq (F : Fits x0 x1 x2 x3 x4 x5 n t) (H : Holds h c s) (r : Fin 256) (g : Fin 4) (j : Fin 2016) :
    preAt x0 x1 x2 x3 h r (pad g (wide j)) = pre n t s r (col g j) := by
  unfold preAt pre
  simp only [F.x, F.w, F.u, F.b, H.h]

/-- A real cell's new state is the recurrence's. -/
theorem cNew_eq (F : Fits x0 x1 x2 x3 x4 x5 n t) (H : Holds h c s) (r : Fin 256) (j : Fin 2016) :
    cNew x0 x1 x2 x3 h c (ix2 r (wide j)) = newC n t s r j := by
  rw [Gate.cNew_apply, preF_apply, preI_apply, preG_apply, preAt_eq F H, preAt_eq F H, preAt_eq F H, H.c]
  rfl

/-- A real cell's output is the recurrence's. -/
theorem out_eq (F : Fits x0 x1 x2 x3 x4 x5 n t) (H : Holds h c s) (r : Fin 256) (j : Fin 2016) :
    Gate.out x0 x1 x2 x3 h c (ix2 r (wide j)) = out n t s r j := by
  rw [Gate.out_apply, preO_apply, preAt_eq F H, cNew_eq F H]
  rfl

/-- The new hidden state is the recurrence's: the padding adds nothing to the projection. -/
theorem hNew_eq (F : Fits x0 x1 x2 x3 x4 x5 n t) (H : Holds h c s) (r : Fin 256) (k : Fin 504) :
    hNew x0 x1 x2 x3 x4 x5 h c (ix2 r k) = newH n t s r k := by
  rw [hNew_apply, Fin.sum_univ_two_halves 2016 32 rfl, F.q]
  have tail : ∑ j : Fin 32, Gate.out x0 x1 x2 x3 h c (ix2 r (⟨2016 + j.val, by omega⟩ : Fin 2048)) * x4 (ix2 (⟨2016 + j.val, by omega⟩ : Fin 2048) k) = 0 :=
    Finset.sum_eq_zero fun j _ => by rw [F.zero k _ (Nat.le_add_right _ _), mul_zero]
  rw [tail, add_zero]
  unfold newH
  refine congrArg (· + n.q k) (Finset.sum_congr rfl fun j _ => ?_)
  rw [← F.p, ← out_eq F H]
  rfl

/-- One grid point is one step of the recurrence. -/
theorem holds_next (F : Fits x0 x1 x2 x3 x4 x5 n t) (H : Holds h c s) :
    Holds (hNew x0 x1 x2 x3 x4 x5 h c) (cNew x0 x1 x2 x3 h c) (next n t s) :=
  ⟨hNew_eq F H, cNew_eq F H⟩

/-- The zeros the first point starts from are the recurrence's. -/
theorem holds_zero (n : Net) : Holds (k1_pay5 (F := Ideal)) (k1_pay6 (F := Ideal)) (run n 0) :=
  ⟨fun r k => by pointwise [k1_pay5]; rfl, fun r j => by pointwise [k1_pay6]; rfl⟩

end Cert.KernelIdeal.CellStep

end
-- ==== Proof.Blocks.lean ====
/- The two launches' arrays at an index: the prepared weights, the blocks each grid point of the recurrent kernel reads, and
   the three arrays it leaves. -/
module

public import proofs.«01_k».proof.Proof.Whole
public import proofs.«01_k».proof.Proof.CellStep
public import Idealize.ShloMosaic.Lib.Pipeline.ValueKit

@[expose] public section

noncomputable section

namespace Cert.KernelIdeal.Blocks

open Idealize.ShloMosaic Idealize.ShloMosaic.TcCoe Cert.KernelIdeal Cert.KernelIdeal.Gen
open Idealize.ShloMosaic.Pipeline (Dat)

/-- A prepared weight: the noise over seventy-five plus the weight clipped to two either way. -/
def mix (d w : EReal) : EReal :=
  Ideal.div d (Ideal.ofBits .f32 0x42960000#32) + min (Ideal.ofBits .f32 0x40000000#32) (max (Ideal.ofBits .f32 0xC0000000#32) w)

/-- One element of the prepared weights: the shift over 75 and the clipped weight. -/
theorem prep_apply (v0 v4 : Vec Ideal S128x8064 .f32) (i : S128x8064.Idx) : k0_pay1 v0 v4 i = mix (v0 i) (v4 i) := by
  pointwise [k0_pay1]
  rfl

variable (V : Valuation τ sig (Elt Ideal)) (c : Dev nD)

/-- The preparation's blocks lie one below the other. -/
theorem idx0_0 : ∀ t : Fin cfg0.N, win0_0.index t = ![t.val, 0] := by decide +kernel
theorem idx0_1 : ∀ t : Fin cfg0.N, win0_1.index t = ![t.val, 0] := by decide +kernel
theorem idx0_2 : ∀ t : Fin cfg0.N, win0_2.index t = ![t.val, 0] := by decide +kernel

/-- The prepared array, whole: each weight clipped and perturbed by its own noise. -/
theorem prep_arr : (Prep.dat V c).arrAt 2 cfg0.N = fun i => mix (V main_v3 i) (V main_v2 i) := by
  refine (Prep.dat V c).arrAt_eq_of_covers 2 _ (by decide +kernel) fun t hf y => ?_
  blk_simp
  rw [Prep.after_2, prep_apply]
  blk_simp [Prep.iblk]
  have e1 : (win0_1.blk t).view.emb y = (win0_2.blk t).view.emb y := by blk_ext [idx0_1, idx0_2]
  have e0 : (win0_0.blk t).view.emb y = (win0_2.blk t).view.emb y := by blk_ext [idx0_0, idx0_2]
  rw [e1, e0]

/-! The recurrent kernel's inputs: point `t` reads row `t` of the input, and the other arrays whole. -/

theorem idx1_0 : ∀ t : Fin cfg1.N, win1_0.index t = ![t.val, 0, 0] := by decide +kernel
theorem idx1_1 : ∀ t : Fin cfg1.N, win1_1.index t = ![0, 0] := by decide +kernel
theorem idx1_2 : ∀ t : Fin cfg1.N, win1_2.index t = ![0, 0] := by decide +kernel
theorem idx1_3 : ∀ t : Fin cfg1.N, win1_3.index t = ![0, 0] := by decide +kernel
theorem idx1_4 : ∀ t : Fin cfg1.N, win1_4.index t = ![0, 0] := by decide +kernel
theorem idx1_5 : ∀ t : Fin cfg1.N, win1_5.index t = ![0, 0] := by decide +kernel
theorem idx1_6 : ∀ t : Fin cfg1.N, win1_6.index t = ![0, t.val, 0, 0] := by decide +kernel
theorem idx1_7 : ∀ t : Fin cfg1.N, win1_7.index t = ![0, 0] := by decide +kernel
theorem idx1_8 : ∀ t : Fin cfg1.N, win1_8.index t = ![0, 0] := by decide +kernel

/-- At point `t` the cell is handed row `t` of the inputs. -/
theorem iblk_0 (t : Fin cfg1.N) (r : Fin 256) (k : Fin 128) :
    Cell.iblk V 0 t (ix3 (0 : Fin 1) r k) = V main_v17 (ix3 (t.cast N_1 : Fin 256) r k) := by
  blk_simp [Cell.iblk]
  exact congrArg (V main_v17) (by blk_ext [idx1_0, Fin.val_cast])

/-- At every point it is handed the whole of the input weights. -/
theorem iblk_1 (t : Fin cfg1.N) (k : Fin 128) (l : Fin 8192) : Cell.iblk V 1 t (ix2 k l) = V main_v9 (ix2 k l) := by
  blk_simp [Cell.iblk]
  exact congrArg (V main_v9) (by blk_ext [idx1_1])

/-- The hidden weights, whole. -/
theorem iblk_2 (t : Fin cfg1.N) (k : Fin 504) (l : Fin 8192) : Cell.iblk V 2 t (ix2 k l) = V main_v11 (ix2 k l) := by
  blk_simp [Cell.iblk]
  exact congrArg (V main_v11) (by blk_ext [idx1_2])

/-- The bias, whole. -/
theorem iblk_3 (t : Fin cfg1.N) (l : Fin 8192) : Cell.iblk V 3 t (ix2 (0 : Fin 1) l) = V main_v12 (ix2 (0 : Fin 1) l) := by
  blk_simp [Cell.iblk]
  exact congrArg (V main_v12) (by blk_ext [idx1_3])

/-- The projection, whole. -/
theorem iblk_4 (t : Fin cfg1.N) (j : Fin 2048) (k : Fin 504) : Cell.iblk V 4 t (ix2 j k) = V main_v15 (ix2 j k) := by
  blk_simp [Cell.iblk]
  exact congrArg (V main_v15) (by blk_ext [idx1_4])

/-- The projection's bias, whole. -/
theorem iblk_5 (t : Fin cfg1.N) (k : Fin 504) : Cell.iblk V 5 t (ix2 (0 : Fin 1) k) = V main_v16 (ix2 (0 : Fin 1) k) := by
  blk_simp [Cell.iblk]
  exact congrArg (V main_v16) (by blk_ext [idx1_5])

/-! Its outputs: the sequence of hidden states, and the last hidden and cell states. -/

/-- The block of hidden states a point stores, at an index. -/
theorem hBlock_apply (h : FVec Ideal S256x504 .f32) (y : S256x1x1x504.Idx) : Cell.hBlock h y = h (ix2 (y 0 : Fin 256) (y 3 : Fin 504)) := by
  pointwise [Cell.hBlock]

/-- The cell state without its padding, at an index. -/
theorem pay4_apply (x : FVec Ideal S256x2048 .f32) (y : S256x2016.Idx) : k1_pay4 x y = x (ix2 (y 0 : Fin 256) (CellStep.wide (y 1))) := by
  pointwise [k1_pay4]
  rfl

/-- The array of hidden states: at step `t`, the hidden state after point `t`. -/
theorem out_6 : (Cell.dat V c).arrAt 6 cfg1.N
    = fun i : S256x256x1x504.Idx => (Cell.st V ((i 1).val + 1)).1 (ix2 (i 0 : Fin 256) (i 3 : Fin 504)) := by
  refine (Cell.dat V c).arrAt_eq_of_covers 6 _ (by decide +kernel) fun t hf y => ?_
  blk_simp
  rw [Cell.after_6, hBlock_apply]
  have e : win1_6.index t 1 = t.val := by rw [idx1_6]; rfl
  have e0 : (y 0 : Fin 256) = ((win1_6.blk t).view.emb y 0 : Fin 256) := Fin.ext (by blk_simp [idx1_6])
  have e3 : (y 3 : Fin 504) = ((win1_6.blk t).view.emb y 3 : Fin 504) := Fin.ext (by blk_simp [idx1_6])
  rw [e, e0, e3]

/-- The last hidden state: the one after the last point. -/
theorem out_7 : (Cell.dat V c).arrAt 7 cfg1.N = (Cell.st V 256).1 := by
  refine (Cell.dat V c).arrAt_eq_of_covers 7 _ (by decide +kernel) fun t hf y => ?_
  blk_simp
  have ht : t.val + 1 = 256 := by
    have h1 := (flush1_7 t).mp hf
    have h2 : t.val < 256 := Nat.lt_of_lt_of_eq t.isLt N_1
    omega
  rw [Cell.after_7, ht]
  exact congrArg (Cell.st V 256).1 (by blk_ext [idx1_7])

/-- The last cell state, without its padding. -/
theorem out_8 : (Cell.dat V c).arrAt 8 cfg1.N
    = fun i : S256x2016.Idx => (Cell.st V 256).2 (ix2 (i 0 : Fin 256) (CellStep.wide (i 1))) := by
  refine (Cell.dat V c).arrAt_eq_of_covers 8 _ (by decide +kernel) fun t hf y => ?_
  blk_simp
  have ht : t.val + 1 = 256 := by
    have h1 := (flush1_8 t).mp hf
    have h2 : t.val < 256 := Nat.lt_of_lt_of_eq t.isLt N_1
    omega
  rw [Cell.after_8, ht, pay4_apply]
  have e0 : (y 0 : Fin 256) = ((win1_8.blk t).view.emb y 0 : Fin 256) := Fin.ext (by blk_simp [idx1_8])
  have e1 : (y 1 : Fin 2016) = ((win1_8.blk t).view.emb y 1 : Fin 2016) := Fin.ext (by blk_simp [idx1_8])
  rw [e0, e1]

end Cert.KernelIdeal.Blocks

end
-- ==== Proof.ArgNet.lean ====
/- The numbers a run of the recurrence is given, as functions of the seven arguments. -/
module

public import proofs.«01_k».proof.Proof.Blocks

@[expose] public section

noncomputable section

namespace Cert.ArgNet

open Idealize.ShloMosaic Cert.KernelIdeal Cert.KernelIdeal.Blocks Cert.Recurrence

/-- The inputs by time, the two weight matrices and the bias each clipped to `[-2, 2]` and shifted, and the projection
    with its bias. The shifts' rows belong to the input weights, then the hidden weights, then the bias. -/
def argNet (a0 : Vec Ideal S256x256x128 .f32) (a1 : Vec Ideal S128x8064 .f32) (a2 : Vec Ideal S504x8064 .f32) (a3 : Vec Ideal S8064 .f32)
    (a4 : Vec Ideal S504x2016 .f32) (a5 : Vec Ideal S504 .f32) (a6 : Vec Ideal S633x8064 .f32) : Net where
  x t r k := a0 (ix3 r (⟨t % 256, Nat.mod_lt _ (by decide)⟩ : Fin 256) k)
  w k j := mix (a6 (ix2 (⟨k.val, by omega⟩ : Fin 633) j)) (a1 (ix2 k j))
  u k j := mix (a6 (ix2 (⟨128 + k.val, by omega⟩ : Fin 633) j)) (a2 (ix2 k j))
  b j := mix (a6 (ix2 (⟨632, by omega⟩ : Fin 633) j)) (a3 (ix1 j))
  p k j := a4 (ix2 k j)
  q k := a5 (ix1 k)

end Cert.ArgNet

end
-- ==== Proof.HostArrays.lean ====
/- The arrays the host lays out for the two launches, read at an index: each stretch of host operations, over any
   contents of the buffers before it. -/
module

public import proofs.«01_k».proof.Proof.Blocks
public import Idealize.ShloMosaic.Lib.Pointwise

@[expose] public section

noncomputable section

namespace Cert.KernelIdeal.HostArrays

open Idealize.ShloMosaic Idealize.ShloMosaic.TcCoe Cert.KernelIdeal Cert.KernelIdeal.Gen
open Cert.Recurrence (col)

variable (V : Valuation τ sig (Elt Ideal))

/-- Padding a 633-row array to 640 rows keeps its 633 rows. -/
theorem pad_rows (x : Vec Ideal S633x8064 .f32) (v : Vec Ideal S_ .f32) (r : Fin 633) (j : Fin 8064) :
    pad S640x8064 ![0, 0] ![7, 0] ![0, 0] x v pads_S633x8064_S640x8064_070_000 h_S_ (ix2 (⟨r.val, by omega⟩ : Fin 640) j)
      = x (ix2 r j) := by
  pointwise

/-- Padding 2016 columns of a gate to 2048 keeps the 2016 columns. -/
theorem pad_gates (x : Vec Ideal S640x4x2016 .f32) (v : Vec Ideal S_ .f32) (r : Fin 640) (g : Fin 4) (j : Fin 2016) :
    pad S640x4x2048 ![0, 0, 0] ![0, 0, 32] ![0, 0, 0] x v pads_S640x4x2016_S640x4x2048_000_000_0320 h_S_ (ix3 r g (CellStep.wide j))
      = x (ix3 r g j) := by
  pointwise
  exact dif_pos j.isLt

/-- Padding the 2016 rows of the transposed projection to 2048 keeps the 2016 rows. -/
theorem pad_proj (x : Vec Ideal S2016x504 .f32) (v : Vec Ideal S_ .f32) (j : Fin 2016) (k : Fin 504) :
    pad S2048x504 ![0, 0] ![32, 0] ![0, 0] x v pads_S2016x504_S2048x504_0320_000 h_S_ (ix2 (CellStep.wide j) k)
      = x (ix2 j k) := by
  pointwise
  exact dif_pos j.isLt

/-- The rows it is padded with hold the padding's value. -/
theorem pad_proj_ge (x : Vec Ideal S2016x504 .f32) (v : Vec Ideal S_ .f32) (j : Fin 2048) (hj : 2016 ≤ j.val) (k : Fin 504) :
    pad S2048x504 ![0, 0] ![32, 0] ![0, 0] x v pads_S2016x504_S2048x504_0320_000 h_S_ (ix2 j k)
      = v (Shape.Idx.first h_S_) := by
  pointwise
  exact dif_neg (Nat.not_lt.mpr hj)

/-- The weights stacked: the two matrices one over the other, and the bias as a last row. -/
theorem v1_eq : StableHlo.after hostOps0 V main_v1
    = concatenate S633x8064 0 [⟨S128x8064, (V main_arg1 : Vec Ideal S128x8064 .f32)⟩, ⟨S504x8064, (V main_arg2 : Vec Ideal S504x8064 .f32)⟩,
        ⟨S1x8064, (broadcastInDim S1x8064 ![1] bcast_S8064_S1x8064_1 (V main_arg3 : Vec Ideal S8064 .f32) : Vec Ideal S1x8064 .f32)⟩]
        concatenates_S128x8064_S504x8064_S1x8064_S633x8064_d0 := by
  after_results
  rfl

/-- The first 128 rows of the stack are the input weights. -/
theorem v1_x (k : Fin 128) (j : Fin 8064) :
    (StableHlo.after hostOps0 V main_v1 : Vec Ideal S633x8064 .f32) (ix2 (⟨k.val, by omega⟩ : Fin 633) j)
      = (V main_arg1 : Vec Ideal S128x8064 .f32) (ix2 k j) := by
  rw [v1_eq]
  pointwise

/-- The next 504 rows of the stack are the hidden weights. -/
theorem v1_h (k : Fin 504) (j : Fin 8064) :
    (StableHlo.after hostOps0 V main_v1 : Vec Ideal S633x8064 .f32) (ix2 (⟨128 + k.val, by omega⟩ : Fin 633) j)
      = (V main_arg2 : Vec Ideal S504x8064 .f32) (ix2 k j) := by
  rw [v1_eq]
  pointwise

/-- The last row of the stack is the bias. -/
theorem v1_b (j : Fin 8064) :
    (StableHlo.after hostOps0 V main_v1 : Vec Ideal S633x8064 .f32) (ix2 (⟨632, by omega⟩ : Fin 633) j)
      = (V main_arg3 : Vec Ideal S8064 .f32) (ix1 j) := by
  rw [v1_eq]
  pointwise

/-- Padding the stack to 640 rows keeps its 633 rows. -/
theorem v2_at (r : Fin 633) (j : Fin 8064) :
    (StableHlo.after hostOps0_1 V main_v2 : Vec Ideal S640x8064 .f32) (ix2 (⟨r.val, by omega⟩ : Fin 640) j)
      = (V main_v1 : Vec Ideal S633x8064 .f32) (ix2 r j) := by
  have h : StableHlo.after hostOps0_1 V main_v2
      = pad S640x8064 ![0, 0] ![7, 0] ![0, 0] (V main_v1 : Vec Ideal S633x8064 .f32)
          (sitofp (F := Ideal) .f32 (V main_c : IVec S_ 32)) pads_S633x8064_S640x8064_070_000 h_S_ := by
    after_results
    rfl
  rw [h]
  exact pad_rows _ _ r j

/-- Padding the shifts to 640 rows keeps their 633 rows. -/
theorem v3_at (r : Fin 633) (j : Fin 8064) :
    (StableHlo.after hostOps0_3 V main_v3 : Vec Ideal S640x8064 .f32) (ix2 (⟨r.val, by omega⟩ : Fin 640) j)
      = (V main_arg6 : Vec Ideal S633x8064 .f32) (ix2 r j) := by
  have h : StableHlo.after hostOps0_3 V main_v3
      = pad S640x8064 ![0, 0] ![7, 0] ![0, 0] (V main_arg6 : Vec Ideal S633x8064 .f32)
          (sitofp (F := Ideal) .f32 (V main_c_0 : IVec S_ 32)) pads_S633x8064_S640x8064_070_000 h_S_ := by
    after_results
    rfl
  rw [h]
  exact pad_rows _ _ r j

/-- Column `j` of gate `g` is found at `(g, j)` once the columns are split by gate. -/
theorem v5_at (r : Fin 640) (g : Fin 4) (j : Fin 2016) :
    (StableHlo.after hostOps1 V main_v5 : Vec Ideal S640x4x2016 .f32) (ix3 r g j)
      = (V main_v4 : Vec Ideal S640x8064 .f32) (ix2 r (col g j)) := by
  have h : StableHlo.after hostOps1 V main_v5
      = shapeCast S640x4x2016 (V main_v4 : Vec Ideal S640x8064 .f32) shapeCasts_S640x8064_S640x4x2016 := by
    after_results
    rfl
  rw [h]
  pointwise
  exact congrArg (fun l => (V main_v4 : Vec Ideal S640x8064 .f32) (ix2 r l)) (Fin.ext (by simp only [col]; omega))

/-- Padding each gate to 2048 columns keeps its 2016 columns. -/
theorem v6_at (r : Fin 640) (g : Fin 4) (j : Fin 2016) :
    (StableHlo.after hostOps1_1 V main_v6 : Vec Ideal S640x4x2048 .f32) (ix3 r g (CellStep.wide j))
      = (V main_v5 : Vec Ideal S640x4x2016 .f32) (ix3 r g j) := by
  have h : StableHlo.after hostOps1_1 V main_v6
      = pad S640x4x2048 ![0, 0, 0] ![0, 0, 32] ![0, 0, 0] (V main_v5 : Vec Ideal S640x4x2016 .f32)
          (sitofp (F := Ideal) .f32 (V main_c_1 : IVec S_ 32)) pads_S640x4x2016_S640x4x2048_000_000_0320 h_S_ := by
    after_results
    rfl
  rw [h]
  exact pad_gates _ _ r g j

/-- The gates side by side again. -/
theorem v7_cast (r : Fin 640) (g : Fin 4) (j : Fin 2048) (x : Vec Ideal S640x4x2048 .f32) :
    shapeCast S640x8192 x shapeCasts_S640x4x2048_S640x8192 (ix2 r (CellStep.pad g j)) = x (ix3 r g j) := by
  pointwise
  have hg : (2048 * g.val + j.val) / 2048 = g.val := by omega
  have hj : (2048 * g.val + j.val) % 2048 = j.val := by omega
  exact congrArg₂ (fun a b => x (ix3 r a b)) (Fin.ext hg) (Fin.ext hj)

/-- The input weights the cell is handed: the first 128 rows. -/
theorem v9_at (k : Fin 128) (g : Fin 4) (j : Fin 2048) :
    (StableHlo.after hostOps1_2 V main_v9 : Vec Ideal S128x8192 .bf16) (ix2 k (CellStep.pad g j))
      = (V main_v6 : Vec Ideal S640x4x2048 .f32) (ix3 (⟨k.val, by omega⟩ : Fin 640) g j) := by
  have h : StableHlo.after hostOps1_2 V main_v9
      = truncf (F := Ideal) .bf16 (extractStridedSlice S128x8192 ![0, 0] (shapeCast S640x8192 (V main_v6 : Vec Ideal S640x4x2048 .f32)
          shapeCasts_S640x4x2048_S640x8192) slices_S640x8192_S128x8192_0_0) bitsLt_bf16_f32 := by
    after_results
    rfl
  rw [h, ← v7_cast _ g j (V main_v6)]
  pointwise

/-- The hidden weights the cell is handed: the next 504 rows. -/
theorem v11_at (k : Fin 504) (g : Fin 4) (j : Fin 2048) :
    (StableHlo.after hostOps1_2 V main_v11 : Vec Ideal S504x8192 .bf16) (ix2 k (CellStep.pad g j))
      = (V main_v6 : Vec Ideal S640x4x2048 .f32) (ix3 (⟨128 + k.val, by omega⟩ : Fin 640) g j) := by
  have h : StableHlo.after hostOps1_2 V main_v11
      = truncf (F := Ideal) .bf16 (extractStridedSlice S504x8192 ![128, 0] (shapeCast S640x8192 (V main_v6 : Vec Ideal S640x4x2048 .f32)
          shapeCasts_S640x4x2048_S640x8192) slices_S640x8192_S504x8192_128_0) bitsLt_bf16_f32 := by
    after_results
    rfl
  rw [h, ← v7_cast _ g j (V main_v6)]
  pointwise

/-- The bias the cell is handed: row 632. -/
theorem v12_at (g : Fin 4) (j : Fin 2048) :
    (StableHlo.after hostOps1_2 V main_v12 : Vec Ideal S1x8192 .f32) (ix2 0 (CellStep.pad g j))
      = (V main_v6 : Vec Ideal S640x4x2048 .f32) (ix3 (⟨632, by omega⟩ : Fin 640) g j) := by
  have h : StableHlo.after hostOps1_2 V main_v12
      = extractStridedSlice S1x8192 ![632, 0] (shapeCast S640x8192 (V main_v6 : Vec Ideal S640x4x2048 .f32)
          shapeCasts_S640x4x2048_S640x8192) slices_S640x8192_S1x8192_632_0 := by
    after_results
    rfl
  rw [h, ← v7_cast _ g j (V main_v6)]
  pointwise

/-- The projection, transposed. -/
theorem v13_at (j : Fin 2016) (k : Fin 504) :
    (StableHlo.after hostOps1_2 V main_v13 : Vec Ideal S2016x504 .f32) (ix2 j k)
      = (V main_arg4 : Vec Ideal S504x2016 .f32) (ix2 k j) := by
  have h : StableHlo.after hostOps1_2 V main_v13
      = transpose S2016x504 [1, 0] (V main_arg4 : Vec Ideal S504x2016 .f32) transposes_S504x2016_S2016x504_1_0 := by
    after_results
  rw [h]
  pointwise

/-- The word the projection is padded with is zero. -/
theorem c2_eq : (StableHlo.after hostOps1_2 V main_c_2 : IVec S_ 32) = constantI S_ 32 0#32 := by
  after_results

/-- The padded projection, as a value of the stretch that pads it. -/
theorem v14_eq : StableHlo.after hostOps1_3 V main_v14
    = pad S2048x504 ![0, 0] ![32, 0] ![0, 0] (V main_v13 : Vec Ideal S2016x504 .f32)
        (sitofp (F := Ideal) .f32 (V main_c_2 : IVec S_ 32)) pads_S2016x504_S2048x504_0320_000 h_S_ := by
  after_results
  rfl

/-- Padding the projection to 2048 rows keeps its 2016 rows. -/
theorem v14_at (j : Fin 2016) (k : Fin 504) :
    (StableHlo.after hostOps1_3 V main_v14 : Vec Ideal S2048x504 .f32) (ix2 (CellStep.wide j) k)
      = (V main_v13 : Vec Ideal S2016x504 .f32) (ix2 j k) := by
  rw [v14_eq]
  exact pad_proj _ _ j k

/-- The rows the projection is padded with are zero. -/
theorem v14_zero (hc : (V main_c_2 : IVec S_ 32) = constantI S_ 32 0#32) (j : Fin 2048) (hj : 2016 ≤ j.val) (k : Fin 504) :
    (StableHlo.after hostOps1_3 V main_v14 : Vec Ideal S2048x504 .f32) (ix2 j k) = (0 : EReal) := by
  rw [v14_eq, hc]
  refine (pad_proj_ge _ _ j hj k).trans ?_
  pointwise
  exact (by simp : (((((0#32 : BitVec 32).toInt : ℤ) : ℝ)) : EReal) = 0)

/-- Rounding the projection changes no real. -/
theorem v15_eq : (StableHlo.after hostOps1_4 V main_v15 : Vec Ideal S2048x504 .bf16) = (V main_v14 : Vec Ideal S2048x504 .f32) := by
  after_results
  rfl

/-- The projection's bias as one row. -/
theorem v16_at (k : Fin 504) : (StableHlo.after hostOps1_4 V main_v16 : Vec Ideal S1x504 .f32) (ix2 0 k)
    = (V main_arg5 : Vec Ideal S504 .f32) (ix1 k) := by
  have h : StableHlo.after hostOps1_4 V main_v16 = broadcastInDim S1x504 ![1] bcast_S504_S1x504_1 (V main_arg5 : Vec Ideal S504 .f32) := by
    after_results
  rw [h]
  pointwise

/-- The inputs with time first. -/
theorem v17_at (t r : Fin 256) (k : Fin 128) :
    (StableHlo.after hostOps1_4 V main_v17 : Vec Ideal S256x256x128 .f32) (ix3 t r k)
      = (V main_arg0 : Vec Ideal S256x256x128 .f32) (ix3 r t k) := by
  have h : StableHlo.after hostOps1_4 V main_v17
      = transpose S256x256x128 [1, 0, 2] (V main_arg0 : Vec Ideal S256x256x128 .f32) transposes_S256x256x128_S256x256x128_1_0_2 := by
    after_results
  rw [h]
  pointwise

/-- The outputs of all the steps, the unit axis dropped. -/
theorem v19_at (r t : Fin 256) (k : Fin 504) :
    (StableHlo.after hostOps2 V main_v19 : Vec Ideal S256x256x504 .f32) (ix3 r t k)
      = (V main_v18_0 : Vec Ideal S256x256x1x504 .f32) (ix4 r t 0 k) := by
  have h : StableHlo.after hostOps2 V main_v19
      = shapeCast S256x256x504 (V main_v18_0 : Vec Ideal S256x256x1x504 .f32) shapeCasts_S256x256x1x504_S256x256x504 := by
    after_results
    rfl
  rw [h]
  pointwise

end Cert.KernelIdeal.HostArrays

end
-- ==== Proof.KernelNet.lean ====
/- What the kernel's recurrent launch is handed: at every grid point, the numbers of the arguments' recurrence. -/
module

public import proofs.«01_k».proof.Proof.ArgNet
public import proofs.«01_k».proof.Proof.HostArrays
public import proofs.«01_k».proof.Proof.Whole

@[expose] public section

noncomputable section

namespace Cert.KernelIdeal.KernelNet

open Idealize.ShloMosaic Idealize.ShloMosaic.TcCoe Cert.KernelIdeal Cert.KernelIdeal.Gen Cert.KernelIdeal.Whole
open Cert.KernelIdeal.Blocks (mix)
open Cert.Recurrence (col Net run)

variable (m : (ℓ : Loc nD τ sig) → Buf (Elt Ideal) ℓ) (c : Dev nD)

/-- Argument buffers of core `c`, at launch. -/
abbrev arg (r : Ref sig .tc) : Buf (Elt Ideal) ((c : Thread nD τ).loc r) := m ((c : Thread nD τ).loc r)

/-- The recurrence the arguments give. -/
def net : Net := ArgNet.argNet (arg m c main_arg0) (arg m c main_arg1) (arg m c main_arg2) (arg m c main_arg3) (arg m c main_arg4)
  (arg m c main_arg5) (arg m c main_arg6)

/-- The shifts reach their padding as they were given. -/
theorem V3_arg6 : V3 m c main_arg6 = arg m c main_arg6 := by
  rw [V3_of m c _ (by decide), V2_of m c _ (by decide), V1_of m c _ (by decide)]

/-- The array the first launch leaves: the padded stack of weights, clipped and shifted. -/
theorem v4_eq : V5 m (prepOuts m) c main_v4 = fun i => mix (V4 m c main_v3 i) (V4 m c main_v2 i) := by
  rw [← Blocks.prep_arr (V4 m c) c, V5, Function.update_self]
  exact Pipeline.afterRegion_arr (Prep.dat (V4 m c) c) (V4 m c) winFacts0.arr_inj 2

/-- A row of it: the row of the shifts with the row of the stack. -/
theorem v4_at (r : Fin 633) (j : Fin 8064) :
    (V5 m (prepOuts m) c main_v4 : Vec Ideal S640x8064 .f32) (ix2 (⟨r.val, by omega⟩ : Fin 640) j)
      = mix ((arg m c main_arg6 : Vec Ideal S633x8064 .f32) (ix2 r j)) ((V1 m c main_v1 : Vec Ideal S633x8064 .f32) (ix2 r j)) := by
  rw [v4_eq]
  show mix ((V4 m c main_v3 : Vec Ideal S640x8064 .f32) _) ((V4 m c main_v2 : Vec Ideal S640x8064 .f32) _) = _
  rw [V4_of m c main_v2 (by decide), V3_of m c main_v2 (by decide)]
  exact congrArg₂ mix ((HostArrays.v3_at (V3 m c) r j).trans (congrFun (V3_arg6 m c) _)) (HostArrays.v2_at (V1 m c) r j)

/-- The same row once the columns are split by gate and padded. -/
theorem v6_at (r : Fin 633) (g : Fin 4) (j : Fin 2016) :
    (V7 m (prepOuts m) c main_v6 : Vec Ideal S640x4x2048 .f32) (ix3 (⟨r.val, by omega⟩ : Fin 640) g (CellStep.wide j))
      = mix ((arg m c main_arg6 : Vec Ideal S633x8064 .f32) (ix2 r (col g j)))
          ((V1 m c main_v1 : Vec Ideal S633x8064 .f32) (ix2 r (col g j))) := by
  rw [← v4_at m c r (col g j)]
  exact (HostArrays.v6_at (V6 m (prepOuts m) c) _ g j).trans (HostArrays.v5_at (V5 m (prepOuts m) c) _ g j)

/-- The input weights. -/
theorem w_at (k : Fin 128) (g : Fin 4) (j : Fin 2016) :
    (VC m c main_v9 : Vec Ideal S128x8192 .bf16) (ix2 k (CellStep.pad g (CellStep.wide j))) = (net m c).w k (col g j) := by
  refine (congrFun ((V10_of m (prepOuts m) c main_v9 (by decide)).trans (V9_of m (prepOuts m) c main_v9 (by decide))) _).trans ?_
  refine (HostArrays.v9_at (V7 m (prepOuts m) c) k g _).trans ((v6_at m c ⟨k.val, by omega⟩ g j).trans ?_)
  exact congrArg (mix _) (HostArrays.v1_x (V0 m c) k (col g j))

/-- The hidden weights. -/
theorem u_at (k : Fin 504) (g : Fin 4) (j : Fin 2016) :
    (VC m c main_v11 : Vec Ideal S504x8192 .bf16) (ix2 k (CellStep.pad g (CellStep.wide j))) = (net m c).u k (col g j) := by
  refine (congrFun ((V10_of m (prepOuts m) c main_v11 (by decide)).trans (V9_of m (prepOuts m) c main_v11 (by decide))) _).trans ?_
  refine (HostArrays.v11_at (V7 m (prepOuts m) c) k g _).trans ((v6_at m c ⟨128 + k.val, by omega⟩ g j).trans ?_)
  exact congrArg (mix _) (HostArrays.v1_h (V0 m c) k (col g j))

/-- The bias. -/
theorem b_at (g : Fin 4) (j : Fin 2016) :
    (VC m c main_v12 : Vec Ideal S1x8192 .f32) (ix2 0 (CellStep.pad g (CellStep.wide j))) = (net m c).b (col g j) := by
  refine (congrFun ((V10_of m (prepOuts m) c main_v12 (by decide)).trans (V9_of m (prepOuts m) c main_v12 (by decide))) _).trans ?_
  refine (HostArrays.v12_at (V7 m (prepOuts m) c) g _).trans ((v6_at m c ⟨632, by omega⟩ g j).trans ?_)
  exact congrArg (mix _) (HostArrays.v1_b (V0 m c) (col g j))

/-- No operation before the last stretch writes an argument. -/
theorem V7_arg (r : Ref sig .tc) (h : r ∈ [main_arg0, main_arg4, main_arg5]) : V7 m (prepOuts m) c r = arg m c r := by
  have hne : ∀ l : List (Ref sig .tc), (∀ r ∈ [main_arg0, main_arg4, main_arg5], r ∉ l) → r ∉ l := fun l hl => hl r h
  rw [V7_of m _ c r (hne _ (by decide)), V6_of m _ c r (hne _ (by decide)), V5_of m _ c r (hne _ (by decide)), V4_of m c r (hne _ (by decide)),
    V3_of m c r (hne _ (by decide)), V2_of m c r (hne _ (by decide)), V1_of m c r (hne _ (by decide))]

/-- Nor does the padding of the projection. -/
theorem V9_arg (r : Ref sig .tc) (h : r ∈ [main_arg0, main_arg4, main_arg5]) : V9 m (prepOuts m) c r = arg m c r := by
  have hne : ∀ l : List (Ref sig .tc), (∀ r ∈ [main_arg0, main_arg4, main_arg5], r ∉ l) → r ∉ l := fun l hl => hl r h
  rw [V9_of m _ c r (hne _ (by decide)), V8_of m _ c r (hne _ (by decide)), V7_arg m c r h]

/-- The projection, its rows the cells. -/
theorem p_at (k : Fin 504) (j : Fin 2016) :
    (VC m c main_v15 : Vec Ideal S2048x504 .bf16) (ix2 (CellStep.wide j) k) = (net m c).p k j := by
  refine (congrFun (HostArrays.v15_eq (V9 m (prepOuts m) c)) _).trans ((HostArrays.v14_at (V8 m (prepOuts m) c) j k).trans ?_)
  exact (HostArrays.v13_at (V7 m (prepOuts m) c) j k).trans (congrFun (V7_arg m c main_arg4 (by decide)) _)

/-- The projection's padding is zero. -/
theorem p_zero (k : Fin 504) (j : Fin 2048) (hj : 2016 ≤ j.val) : (VC m c main_v15 : Vec Ideal S2048x504 .bf16) (ix2 j k) = (0 : EReal) :=
  (congrFun (HostArrays.v15_eq (V9 m (prepOuts m) c)) _).trans
    (HostArrays.v14_zero (V8 m (prepOuts m) c) (HostArrays.c2_eq (V7 m (prepOuts m) c)) j hj k)

/-- The projection's bias. -/
theorem q_at (k : Fin 504) : (VC m c main_v16 : Vec Ideal S1x504 .f32) (ix2 0 k) = (net m c).q k :=
  (HostArrays.v16_at (V9 m (prepOuts m) c) k).trans (congrFun (V9_arg m c main_arg5 (by decide)) _)

/-- The inputs. -/
theorem x_at (t r : Fin 256) (k : Fin 128) :
    (VC m c main_v17 : Vec Ideal S256x256x128 .f32) (ix3 t r k) = (arg m c main_arg0 : Vec Ideal S256x256x128 .f32) (ix3 r t k) :=
  (HostArrays.v17_at (V9 m (prepOuts m) c) t r k).trans (congrFun (V9_arg m c main_arg0 (by decide)) _)

/-- At the point of step `n` the cell is handed the recurrence's numbers. -/
theorem fits (n : ℕ) : CellStep.Fits (Cell.iblk (VC m c) 0 (Cell.pt n)) (Cell.iblk (VC m c) 1 (Cell.pt n)) (Cell.iblk (VC m c) 2 (Cell.pt n))
    (Cell.iblk (VC m c) 3 (Cell.pt n)) (Cell.iblk (VC m c) 4 (Cell.pt n)) (Cell.iblk (VC m c) 5 (Cell.pt n)) (net m c) n where
  x r k := (Blocks.iblk_0 (VC m c) (Cell.pt n) r k).trans (x_at m c _ r k)
  w k g j := (Blocks.iblk_1 (VC m c) (Cell.pt n) k _).trans (w_at m c k g j)
  u k g j := (Blocks.iblk_2 (VC m c) (Cell.pt n) k _).trans (u_at m c k g j)
  b g j := (Blocks.iblk_3 (VC m c) (Cell.pt n) _).trans (b_at m c g j)
  p k j := (Blocks.iblk_4 (VC m c) (Cell.pt n) _ k).trans (p_at m c k j)
  zero k j hj := (Blocks.iblk_4 (VC m c) (Cell.pt n) j k).trans (p_zero m c k j hj)
  q k := (Blocks.iblk_5 (VC m c) (Cell.pt n) k).trans (q_at m c k)

/-- After `n` points the kernel holds the recurrence's state after `n` steps. -/
theorem holds (n : ℕ) : CellStep.Holds (Cell.st (VC m c) n).1 (Cell.st (VC m c) n).2 (run (net m c) n) := by
  induction n with
  | zero => rw [Cell.st]; exact CellStep.holds_zero (net m c)
  | succ n ih =>
    rw [Cell.st_succ_1, Cell.st_succ_2]
    exact CellStep.holds_next (fits m c n) ih

end Cert.KernelIdeal.KernelNet

end
-- ==== Proof.RefTable.lean ====
/- The reference's threshold tables, and its count of the thresholds reached, at an index. -/
module

public import proofs.«01_k».proof.Proof.Gen.ReferenceIdeal.Step
public import proofs.«01_k».proof.Proof.Recurrence
public import Idealize.ShloMosaic.Lib.Pointwise

@[expose] public section

noncomputable section

namespace Cert.ReferenceIdeal.Table

open Idealize.ShloMosaic Cert.ReferenceIdeal Cert.ReferenceIdeal.Gen Cert.ReferenceIdeal.Step

/-- The table of sigmoid thresholds, entry by entry. -/
theorem sig_table (k : Fin 31) : K_main_v49 (F := Ideal) (ix1 k) = Ladder.thr Ladder.sigWords k := by
  fin_cases k <;> rfl

/-- The table of tanh thresholds. -/
theorem tanh_table (k : Fin 31) : K_main_v83 (F := Ideal) (ix1 k) = Ladder.thr Ladder.tanhWords k := by
  fin_cases k <;> rfl

end Cert.ReferenceIdeal.Table

end
-- ==== Proof.RefCell.lean ====
/- One trip of the reference's loop, at an index: it is one step of the recurrence. -/
module

public import proofs.«01_k».proof.Proof.RefTable

@[expose] public section

noncomputable section

namespace Cert.ReferenceIdeal.Trip

open Idealize.ShloMosaic Cert.ReferenceIdeal Cert.ReferenceIdeal.Gen Cert.ReferenceIdeal.Step Cert.Recurrence

/-- The recurrence's constants, read off the loop's state. -/
def net (s : Step.State Ideal) : Net where
  x t r k := s.main_v88_0 (ix3 ⟨t % 256, Nat.mod_lt _ (by decide)⟩ r k)
  w k j := s.main_v88_1 (ix2 k j)
  u k j := s.main_v88_2 (ix2 k j)
  b j := s.main_v88_3 (ix1 j)
  p k j := s.main_v88_6 (ix2 k j)
  q k := s.main_v88_7 (ix1 k)

/-- The recurrence's state, read off the loop's. -/
def st (s : Step.State Ideal) : St where
  h r k := s.main_v88_9 (ix2 r k)
  c r j := s.main_v88_10 (ix2 r j)

variable (t : ℕ) (s : Step.State Ideal)

/-- The trip's number as the dynamic slice reads it. -/
theorem start_eq (ht : t < 256) : (BitVec.ofNat 32 t).toInt = (t : ℤ) := by
  rw [BitVec.toInt_eq_toNat_cond, BitVec.toNat_ofNat]
  omega

/-- The window of trip `t` starts at row `t`, and at the first row and column of the other axes. -/
theorem clamp_x (ht : t < 256) (h : S1x256x128.rank = S256x256x128.rank) (v : Fin 3 → ℤ) (h0 : v 0 = (t : ℤ)) (h1 : v 1 = 0) (h2 : v 2 = 0) :
    Host.clampedStart S256x256x128 S1x256x128 h v 0 = t ∧ Host.clampedStart S256x256x128 S1x256x128 h v 1 = 0
      ∧ Host.clampedStart S256x256x128 S1x256x128 h v 2 = 0 :=
  ⟨Host.clampedStart_of_le h v 0 t h0 (show t + 1 ≤ 256 by omega), Host.clampedStart_of_le h v 1 0 h1 (show 0 + 256 ≤ 256 by omega),
    Host.clampedStart_of_le h v 2 0 h2 (show 0 + 128 ≤ 128 by omega)⟩

/-- The place a trip writes its hidden state at is the trip itself. -/
theorem clamp_h (ht : t < 256) (h : S1x256x504.rank = S256x256x504.rank) (v : Fin 3 → ℤ) (h0 : v 0 = (t : ℤ)) (h1 : v 1 = 0) (h2 : v 2 = 0) :
    Host.clampedStart S256x256x504 S1x256x504 h v 0 = t ∧ Host.clampedStart S256x256x504 S1x256x504 h v 1 = 0
      ∧ Host.clampedStart S256x256x504 S1x256x504 h v 2 = 0 :=
  ⟨Host.clampedStart_of_le h v 0 t h0 (show t + 1 ≤ 256 by omega), Host.clampedStart_of_le h v 1 0 h1 (show 0 + 256 ≤ 256 by omega),
    Host.clampedStart_of_le h v 2 0 h2 (show 0 + 504 ≤ 504 by omega)⟩

/-- The trip's input row. -/
theorem b3_apply (ht : t < 256) (r : Fin 256) (k : Fin 128) : b3 t s (ix2 r k) = (net s).x t r k := by
  pointwise [b3, b2, net]
  obtain ⟨e0, e1, e2⟩ := clamp_x t ht rfl
    (fun k => BitVec.toInt (![constantI S_ 32 (BitVec.ofNat 32 t), b0 t s, b1 t s] k (Shape.Idx.first h_S_))) (start_eq t ht) rfl rfl
  refine congrArg s.main_v88_0 ?_
  congr 1
  · exact Fin.ext (e0.trans (Nat.mod_eq_of_lt ht).symm)
  · exact Fin.ext ((congrArg (· + r.val) e1).trans (Nat.zero_add _))
  · exact Fin.ext ((congrArg (· + k.val) e2).trans (Nat.zero_add _))

/-- The four gates before they are quantised. -/
theorem b9_apply (ht : t < 256) (r : Fin 256) (j : Fin 8064) : b9 t s (ix2 r j) = pre (net s) t (st s) r j := by
  pointwise [b9, b6, b4, b5, b8, b7, pre, b3_apply t s ht]
  rfl

/-- The first gate reads the first columns. -/
theorem col_zero (j : Fin 2016) (h : j.val < 8064) : (⟨j.val, h⟩ : Fin 8064) = col 0 j := Fin.ext (by simp [col])

/-- The input gate. -/
theorem b21_apply (ht : t < 256) (r : Fin 256) (j : Fin 2016) : b21 t s (ix2 r j) = quant (pre (net s) t (st s) r (col 0 j)) := by
  rw [← b9_apply t s ht]
  pointwise [b21, b18, b16, b15, b14, b13, b12, b11, b10, b19, b20, b17, Table.sig_table, col_zero]
  rfl

/-- The forget gate. -/
theorem b33_apply (ht : t < 256) (r : Fin 256) (j : Fin 2016) : b33 t s (ix2 r j) = quant (pre (net s) t (st s) r (col 1 j)) := by
  rw [← b9_apply t s ht]
  pointwise [b33, b32, b31, b30, b29, b28, b27, b26, b25, b24, b23, b22, Table.sig_table]
  rfl

/-- The candidate. -/
theorem b48_apply (ht : t < 256) (r : Fin 256) (j : Fin 2016) : b48 t s (ix2 r j) = cand (pre (net s) t (st s) r (col 2 j)) := by
  rw [← b9_apply t s ht]
  pointwise [b48, b47, b46, b45, b44, b43, b42, b41, b40, b39, b38, b37, b36, b35, b34, Table.tanh_table]
  rw [← Ideal.ofBits_one_f32]
  rfl

/-- The output gate. -/
theorem b60_apply (ht : t < 256) (r : Fin 256) (j : Fin 2016) : b60 t s (ix2 r j) = quant (pre (net s) t (st s) r (col 3 j)) := by
  rw [← b9_apply t s ht]
  pointwise [b60, b59, b58, b57, b56, b55, b54, b53, b52, b51, b50, b49, Table.sig_table]
  rfl

/-- The new cell state. -/
theorem b63_apply (ht : t < 256) (r : Fin 256) (j : Fin 2016) : b63 t s (ix2 r j) = newC (net s) t (st s) r j := by
  pointwise [b63, b62, b61, b21_apply t s ht, b33_apply t s ht, b48_apply t s ht]
  rfl

/-- The output before the projection. -/
theorem b65_apply (ht : t < 256) (r : Fin 256) (j : Fin 2016) : b65 t s (ix2 r j) = out (net s) t (st s) r j := by
  pointwise [b65, b64, b60_apply t s ht, b63_apply t s ht]
  rfl

/-- The new hidden state. -/
theorem b70_apply (ht : t < 256) (r : Fin 256) (k : Fin 504) : b70 t s (ix2 r k) = newH (net s) t (st s) r k := by
  pointwise [b70, b69, b68, b67, b66, b65_apply t s ht]
  rfl

/-- The stack of hidden states: the trip writes its row and leaves the others. -/
theorem b74_apply (ht : t < 256) (i r : Fin 256) (k : Fin 504) :
    b74 t s (ix3 i r k) = if i.val = t then newH (net s) t (st s) r k else s.main_v88_11 (ix3 i r k) := by
  rw [← b70_apply t s ht]
  obtain ⟨e0, e1, e2⟩ := clamp_h t ht rfl
    (fun k => BitVec.toInt (![constantI S_ 32 (BitVec.ofNat 32 t), b72 t s, b73 t s] k (Shape.Idx.first h_S_))) (start_eq t ht) rfl rfl
  have hin : (∀ a : Fin S256x256x504.rank, Host.clampedStart S256x256x504 S1x256x504 rfl
      (fun k => BitVec.toInt (![constantI S_ 32 (BitVec.ofNat 32 t), b72 t s, b73 t s] k (Shape.Idx.first h_S_))) a ≤ ((ix3 i r k : S256x256x504.Idx) a).val
      ∧ ((ix3 i r k : S256x256x504.Idx) a).val < Host.clampedStart S256x256x504 S1x256x504 rfl
      (fun k => BitVec.toInt (![constantI S_ 32 (BitVec.ofNat 32 t), b72 t s, b73 t s] k (Shape.Idx.first h_S_))) a + S1x256x504.size a) ↔ i.val = t := by
    constructor
    · intro hh
      have := hh 0
      rw [e0] at this
      have e : i.val < t + 1 := this.2
      have e' : t ≤ i.val := this.1
      omega
    · intro e a
      match a with
      | 0 => rw [e0]; exact ⟨show t ≤ i.val by omega, show i.val < t + 1 by omega⟩
      | 1 => rw [e1]; exact ⟨Nat.zero_le _, show r.val < 0 + 256 by omega⟩
      | 2 => rw [e2]; exact ⟨Nat.zero_le _, show k.val < 0 + 504 by omega⟩
  unfold b74
  rw [Host.dynamicUpdateSlice_apply]
  split
  · next hh =>
    rw [if_pos (hin.mp hh)]
    pointwise [b71]
    refine congrArg (b70 t s) ?_
    congr 1
  · next hh => rw [if_neg (fun e => hh (hin.mpr e))]

/-- A trip changes neither the weights nor the inputs. -/
theorem net_step : net (step t s) = net s := rfl

/-- A trip is one step of the recurrence. -/
theorem st_step (ht : t < 256) : st (step t s) = next (net s) t (st s) :=
  (St.mk.injEq _ _ _ _).mpr ⟨funext fun r => funext fun k => b70_apply t s ht r k, funext fun r => funext fun j => b63_apply t s ht r j⟩

variable (it : ℕ → Step.State Ideal) (hs : ∀ n, it (n + 1) = step n (it n))
include hs

/-- The weights and inputs are those before the loop, whatever the number of trips. -/
theorem net_it (n : ℕ) : net (it n) = net (it 0) := by
  induction n with
  | zero => rfl
  | succ n ih => rw [hs, net_step, ih]

/-- After `n` trips from a zero state the loop's state is the recurrence's. -/
theorem st_it (h0 : st (it 0) = run (net (it 0)) 0) (n : ℕ) (hn : n ≤ 256) : st (it n) = run (net (it 0)) n := by
  induction n with
  | zero => exact h0
  | succ n ih => rw [hs, st_step _ _ (by omega), net_it it hs, ih (by omega)]; rfl

/-- After `n` trips, the first `n` rows of the stack hold the hidden states of those trips. -/
theorem stack_it (h0 : st (it 0) = run (net (it 0)) 0) (n : ℕ) (hn : n ≤ 256) (i r : Fin 256) (k : Fin 504) (hi : i.val < n) :
    (it n).main_v88_11 (ix3 i r k) = (run (net (it 0)) (i.val + 1)).h r k := by
  induction n with
  | zero => omega
  | succ n ih =>
    rw [hs]
    refine (b74_apply n (it n) (by omega) i r k).trans ?_
    split
    · next e => rw [net_it it hs, st_it it hs h0 n (by omega), e]; rfl
    · next e => exact ih (by omega) (by omega)

end Cert.ReferenceIdeal.Trip

end
-- ==== Proof.RefNet.lean ====
/- What the reference's loop starts from: the numbers of the arguments' recurrence and the zero states. -/
module

public import proofs.«01_k».proof.Proof.ArgNet
public import proofs.«01_k».proof.Proof.RefCell
public import Idealize.ShloMosaic.Lib.Pointwise
public import Idealize.ShloMosaic.Lib.IdealHost

@[expose] public section

noncomputable section

namespace Cert.ReferenceIdeal.RefNet

open Idealize.ShloMosaic Cert.ReferenceIdeal Cert.ReferenceIdeal.Gen Cert.ReferenceIdeal.Step
open Cert.KernelIdeal.Blocks (mix)
open Cert.Recurrence (run)

variable (a0 : Vec Ideal S256x256x128 .f32) (a1 : Vec Ideal S128x8064 .f32) (a2 : Vec Ideal S504x8064 .f32) (a3 : Vec Ideal S8064 .f32)
  (a4 : Vec Ideal S504x2016 .f32) (a5 : Vec Ideal S504 .f32) (a6 : Vec Ideal S633x8064 .f32)

/-- The clipped and shifted input weights. -/
theorem w_at (k : Fin 128) (j : Fin 8064) :
    A_main_v4 (F := Ideal) a0 a1 a2 a3 a6 (ix2 k j) = mix (a6 (ix2 (⟨k.val, by omega⟩ : Fin 633) j)) (a1 (ix2 k j)) := by
  pointwise [A_main_v4, A_main_v3, A_main_v2, A_main_v0, A_main_call0_v2, K_main_v1, K_main_call0_v1, K_main_call0_v4, K_main_call0_v0,
    K_main_call0_v3, K_main_cst, K_main_cst_0, K_main_cst_1]
  rfl

/-- The clipped and shifted hidden weights. -/
theorem u_at (k : Fin 504) (j : Fin 8064) :
    A_main_v9 (F := Ideal) a0 a1 a2 a3 a6 (ix2 k j) = mix (a6 (ix2 (⟨128 + k.val, by omega⟩ : Fin 633) j)) (a2 (ix2 k j)) := by
  pointwise [A_main_v9, A_main_v8, A_main_v7, A_main_v5, A_main_call1_v2, K_main_v6, K_main_call1_v1, K_main_call1_v4, K_main_call1_v0,
    K_main_call1_v3, K_main_cst_2, K_main_cst_3, K_main_cst_4]
  rfl

/-- The clipped and shifted bias. -/
theorem b_at (j : Fin 8064) :
    A_main_v15 (F := Ideal) a0 a1 a2 a3 a6 (ix1 j) = mix (a6 (ix2 (⟨632, by omega⟩ : Fin 633) j)) (a3 (ix1 j)) := by
  pointwise [A_main_v15, A_main_v14, A_main_v13, A_main_v11, A_main_v10, A_main_call2_v2, K_main_v12, K_main_call2_v1, K_main_call2_v4, K_main_call2_v0,
    K_main_call2_v3, K_main_cst_5, K_main_cst_6, K_main_cst_7]
  rfl

/-- The inputs with time first. -/
theorem x_at (t r : Fin 256) (k : Fin 128) : A_main_v86 (F := Ideal) a0 a1 a2 a3 a6 (ix3 t r k) = a0 (ix3 r t k) := by
  pointwise [A_main_v86]

/-- The loop's weights and inputs are the arguments' recurrence. -/
theorem net_init : Trip.net (init a4 a5 a0 a1 a2 a3 a6) = ArgNet.argNet a0 a1 a2 a3 a4 a5 a6 := by
  rw [Trip.net, ArgNet.argNet, Recurrence.Net.mk.injEq]
  refine ⟨?_, ?_, ?_, ?_, rfl, rfl⟩
  · funext t r k; exact x_at a0 a1 a2 a3 a6 _ r k
  · funext k j; exact w_at a0 a1 a2 a3 a6 k j
  · funext k j; exact u_at a0 a1 a2 a3 a6 k j
  · funext j; exact b_at a0 a1 a2 a3 a6 j

/-- The loop starts from zero states. -/
theorem st_init (n : Recurrence.Net) : Trip.st (init a4 a5 a0 a1 a2 a3 a6) = run n 0 := by
  rw [Trip.st, run, Recurrence.St.mk.injEq]
  refine ⟨?_, ?_⟩
  · funext r k
    show K_main_v84 (F := Ideal) (ix2 r k) = _
    pointwise [K_main_v84, K_main_cst_70]
  · funext r j
    show K_main_v85 (F := Ideal) (ix2 r j) = _
    pointwise [K_main_v85, K_main_cst_71]

end Cert.ReferenceIdeal.RefNet

end
-- ==== Proof.Results.lean ====
/- The three results — every hidden state, the last hidden state and the last cell state — as the recurrence gives them,
   on the kernel's side and on the reference's. -/
module

public import proofs.«01_k».proof.Proof.KernelNet
public import proofs.«01_k».proof.Proof.RefNet
public import proofs.«01_k».proof.Proof.Frames
public import Idealize.ShloMosaic.Lib.Pointwise

@[expose] public section

set_option maxRecDepth 16384

noncomputable section

namespace Cert.Results

open Idealize.ShloMosaic Idealize.ShloMosaic.TcCoe
open Cert.Recurrence (Net run)

/-- The hidden state of row `r` after step `t`, for every row and step. -/
def states (n : Net) : Vec Ideal Cert.KernelIdeal.S256x256x504 .f32 := fun i => (run n ((i 1).val + 1)).h (i 0) (i 2)

/-- The hidden state after the last step. -/
def lastH (n : Net) : Vec Ideal Cert.KernelIdeal.S256x504 .f32 := fun i => (run n 256).h (i 0) (i 1)

/-- The cell state after the last step. -/
def lastC (n : Net) : Vec Ideal Cert.KernelIdeal.S256x2016 .f32 := fun i => (run n 256).c (i 0) (i 1)

section Kernel

open Cert.KernelIdeal Cert.KernelIdeal.Gen Cert.KernelIdeal.Whole Cert.KernelIdeal.KernelNet

variable (m : (ℓ : Loc nD τ sig) → Buf (Elt Ideal) ℓ) (c : Dev nD)

/-- What the recurrent launch leaves in an array of its windows. -/
theorem launch_arr (w : Fin cfg1.W) :
    V11 m (outs m) c (Proc.devRef .tc (Pipeline.arrRef spec1 w)) = (Cell.dat (VC m c) c).arrAt w cfg1.N := by
  rw [← after1 m c _ (Frames.mem_uc (winFacts1.arr_unscoped w))]
  exact Pipeline.afterRegion_arr (Cell.dat (VC m c) c) (VC m c) winFacts1.arr_inj w

/-- The kernel's first result: every hidden state. -/
theorem kernel_states : V12 m (outs m) c main_v19 = states (net m c) := by
  funext i
  obtain ⟨r, t, k, rfl⟩ : ∃ r t k, i = ix3 r t k := ⟨i 0, i 1, i 2, by funext a; fin_cases a <;> rfl⟩
  refine (HostArrays.v19_at (V11 m (outs m) c) r t k).trans ?_
  refine (congrFun ((launch_arr m c 6).trans (Blocks.out_6 (VC m c) c)) (ix4 r t 0 k)).trans ?_
  exact (holds m c (t.val + 1)).h r k

/-- Its second: the last hidden state. -/
theorem kernel_lastH : V12 m (outs m) c main_v18_1 = lastH (net m c) := by
  funext i
  obtain ⟨r, k, rfl⟩ : ∃ r k, i = ix2 r k := ⟨i 0, i 1, by funext a; fin_cases a <;> rfl⟩
  rw [V12_of m _ c main_v18_1 (by decide)]
  refine (congrFun ((launch_arr m c 7).trans (Blocks.out_7 (VC m c) c)) (ix2 r k)).trans ?_
  exact (holds m c 256).h r k

/-- Its third: the last cell state, the padding dropped. -/
theorem kernel_lastC : V12 m (outs m) c main_v18_2 = lastC (net m c) := by
  funext i
  obtain ⟨r, j, rfl⟩ : ∃ r j, i = ix2 r j := ⟨i 0, i 1, by funext a; fin_cases a <;> rfl⟩
  rw [V12_of m _ c main_v18_2 (by decide)]
  refine (congrFun ((launch_arr m c 8).trans (Blocks.out_8 (VC m c) c)) (ix2 r j)).trans ?_
  exact (holds m c 256).c r j

end Kernel

section Reference

open Cert.ReferenceIdeal Cert.ReferenceIdeal.Gen Cert.ReferenceIdeal.Step

variable (it : ℕ → State Ideal) (hs : ∀ n, it (n + 1) = step n (it n)) (h0 : Trip.st (it 0) = run (Trip.net (it 0)) 0)

include hs h0

/-- The reference's first result: the stack of hidden states, rows first. -/
theorem reference_states : R_main_v89 (it 256) = states (Trip.net (it 0)) := by
  funext i
  obtain ⟨r, t, k, rfl⟩ : ∃ r t k, i = ix3 r t k := ⟨i 0, i 1, i 2, by funext a; fin_cases a <;> rfl⟩
  refine Eq.trans ?_ (Trip.stack_it it hs h0 256 le_rfl t r k t.isLt)
  pointwise [R_main_v89]

/-- Its second: the last hidden state. -/
theorem reference_lastH : (it 256).main_v88_9 = lastH (Trip.net (it 0)) := by
  funext i
  obtain ⟨r, k, rfl⟩ : ∃ r k, i = ix2 r k := ⟨i 0, i 1, by funext a; fin_cases a <;> rfl⟩
  exact congrArg (fun s => s.h r k) (Trip.st_it it hs h0 256 le_rfl)

/-- Its third: the last cell state. -/
theorem reference_lastC : (it 256).main_v88_10 = lastC (Trip.net (it 0)) := by
  funext i
  obtain ⟨r, j, rfl⟩ : ∃ r j, i = ix2 r j := ⟨i 0, i 1, by funext a; fin_cases a <;> rfl⟩
  exact congrArg (fun s => s.c r j) (Trip.st_it it hs h0 256 le_rfl)

end Reference

end Cert.Results

end
-- ==== Proof.Equal.lean ====
/- The kernel and the reference, run on equal arguments over the extended reals, end with equal results. -/
module

public import proofs.«01_k».proof.Proof.Results

@[expose] public section

set_option maxRecDepth 16384

noncomputable section

namespace Cert.Equal

open Idealize.ShloMosaic Idealize.ShloMosaic.TcCoe Idealize.SL.Sem

attribute [local instance] Cert.Kernel.Gen.facts Cert.KernelIdeal.Gen.facts Cert.ReferenceIdeal.Gen.facts

/-- The reference's states from a start: one `step` after another. -/
def iter (s : Cert.ReferenceIdeal.Step.State Ideal) : ℕ → Cert.ReferenceIdeal.Step.State Ideal
  | 0 => s
  | n + 1 => Cert.ReferenceIdeal.Step.step n (iter s n)

open Cert.ReferenceIdeal.StepRun in
/-- The reference starts the recurrence of its own arguments. -/
theorem start (m' : (ℓ : Loc Cert.ReferenceIdeal.nD Cert.ReferenceIdeal.τ Cert.ReferenceIdeal.sig) → Buf (Elt Ideal) ℓ)
    (c : Dev Cert.ReferenceIdeal.nD) :
    Cert.ReferenceIdeal.Trip.st (iter (initState m' c) 0) = Recurrence.run (Cert.ReferenceIdeal.Trip.net (iter (initState m' c) 0)) 0 :=
  Cert.ReferenceIdeal.RefNet.st_init _ _ _ _ _ _ _ _

/-- Both programs leave the recurrence's hidden states, last hidden state and last cell state. -/
theorem values_equal : Cert.algebraic_KernelIdeal_ReferenceIdeal := by
  intro m g m' g' _ hargs
  have hnet : ∀ c : Dev Cert.KernelIdeal.nD, Cert.ReferenceIdeal.Trip.net (iter (Cert.ReferenceIdeal.StepRun.initState m' c) 0)
      = Cert.KernelIdeal.KernelNet.net m c := by
    intro c
    obtain ⟨e0, e1, e2, e3, e4, e5, e6⟩ := hargs c
    refine (Cert.ReferenceIdeal.RefNet.net_init _ _ _ _ _ _ _).trans ?_
    rw [e0, e1, e2, e3, e4, e5, e6]
    rfl
  refine ⟨fun c => Results.states (Cert.KernelIdeal.KernelNet.net m c), fun c => Results.lastH (Cert.KernelIdeal.KernelNet.net m c),
    fun c => Results.lastC (Cert.KernelIdeal.KernelNet.net m c), ?_, ?_⟩
  · refine (θ_run Cert.KernelIdeal.defs _ _).mono (fun r h c => ?_) (Cert.KernelIdeal.Whole.run_all m g)
    refine ⟨(h.1 c _ (Frames.mem_uc rfl)).trans (Results.kernel_states m c), (h.1 c _ (Frames.mem_uc rfl)).trans (Results.kernel_lastH m c),
      (h.1 c _ (Frames.mem_uc rfl)).trans (Results.kernel_lastC m c),
      (h.1 c _ (Frames.mem_uc rfl)).trans (Cert.KernelIdeal.Gen.V12_main_arg0 m _ c),
      (h.1 c _ (Frames.mem_uc rfl)).trans (Cert.KernelIdeal.Gen.V12_main_arg1 m _ c),
      (h.1 c _ (Frames.mem_uc rfl)).trans (Cert.KernelIdeal.Gen.V12_main_arg2 m _ c),
      (h.1 c _ (Frames.mem_uc rfl)).trans (Cert.KernelIdeal.Gen.V12_main_arg3 m _ c),
      (h.1 c _ (Frames.mem_uc rfl)).trans (Cert.KernelIdeal.Gen.V12_main_arg4 m _ c),
      (h.1 c _ (Frames.mem_uc rfl)).trans (Cert.KernelIdeal.Gen.V12_main_arg5 m _ c),
      (h.1 c _ (Frames.mem_uc rfl)).trans (Cert.KernelIdeal.Gen.V12_main_arg6 m _ c)⟩
  · refine (θ_run Cert.ReferenceIdeal.defs _ _).mono (fun r h c => ?_)
      (Cert.ReferenceIdeal.StepRun.run_iter m' g' (fun c => iter (Cert.ReferenceIdeal.StepRun.initState m' c)) (fun _ => rfl) (fun _ _ => rfl))
    obtain ⟨r0, r1, r2, hr⟩ := h c
    refine ⟨r0.trans ?_, r1.trans ?_, r2.trans ?_, hr⟩
    · exact (Results.reference_states _ (fun _ => rfl) (start m' c)).trans (congrArg Results.states (hnet c))
    · exact (Results.reference_lastH _ (fun _ => rfl) (start m' c)).trans (congrArg Results.lastH (hnet c))
    · exact (Results.reference_lastC _ (fun _ => rfl) (start m' c)).trans (congrArg Results.lastC (hnet c))

end Cert.Equal

end
-- ==== Proof.lean ====
module

public import proofs.«01_k».proof.Defs
public import proofs.«01_k».proof.Proof.Frames
public import proofs.«01_k».proof.Proof.Equal

@[expose] public section

noncomputable section

namespace Cert.Proof

/-- Every claim, each from its own module. -/
theorem claim : Cert.Claim := ⟨Cert.Kernel.Gen.facts, Cert.KernelIdeal.Gen.facts, Cert.ReferenceIdeal.Gen.facts,
  Cert.Frames.kernel_words, Cert.Frames.kernel_reals, Cert.Frames.reference_reals, trivial, Cert.Equal.values_equal⟩

end Cert.Proof

end
